-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)) (v4 : (c : Dev Cert.Kernel4Ideal.nD) → Buf (Elt Ideal) ((c.tc : Thread Cert.Kernel4Ideal.nD Cert.Kernel4Ideal.τ).loc Cert.Kernel4Ideal.main_v15_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_v15_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_v44) = v3 c
          ∧ r.2.mem ((c.tc : Thread Cert.Reference4Ideal.nD Cert.Reference4Ideal.τ).loc Cert.Reference4Ideal.main_v45) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v60_0)) (v1 : (c : Dev Cert.Kernel5Ideal.nD) → Buf (Elt Ideal) ((c.tc : Thread Cert.Kernel5Ideal.nD Cert.Kernel5Ideal.τ).loc Cert.Kernel5Ideal.main_v60_1)) (v2 : (c : Dev Cert.Kernel5Ideal.nD) → Buf (Elt Ideal) ((c.tc : Thread Cert.Kernel5Ideal.nD Cert.Kernel5Ideal.τ).loc Cert.Kernel5Ideal.main_v60_2)) (v3 : (c : Dev Cert.Kernel5Ideal.nD) → Buf (Elt Ideal) ((c.tc : Thread Cert.Kernel5Ideal.nD Cert.Kernel5Ideal.τ).loc Cert.Kernel5Ideal.main_v60_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v60_0) = v0 c
          ∧ r.2.mem ((c.tc : Thread Cert.Kernel5Ideal.nD Cert.Kernel5Ideal.τ).loc Cert.Kernel5Ideal.main_v60_1) = v1 c
          ∧ r.2.mem ((c.tc : Thread Cert.Kernel5Ideal.nD Cert.Kernel5Ideal.τ).loc Cert.Kernel5Ideal.main_v60_2) = v2 c
          ∧ r.2.mem ((c.tc : Thread Cert.Kernel5Ideal.nD Cert.Kernel5Ideal.τ).loc Cert.Kernel5Ideal.main_v60_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v87) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v93) = v2 c
          ∧ r.2.mem ((c.tc : Thread Cert.Reference5Ideal.nD Cert.Reference5Ideal.τ).loc Cert.Reference5Ideal.main_v95) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x512x8192 : Shape := ⟨3, ![2, 512, 8192]⟩
abbrev S2x8192x512 : Shape := ⟨3, ![2, 8192, 512]⟩
abbrev S2x1024x8192 : Shape := ⟨3, ![2, 1024, 8192]⟩
abbrev S2x16x8192 : Shape := ⟨3, ![2, 16, 8192]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S2x8192x1024 : Shape := ⟨3, ![2, 8192, 1024]⟩
abbrev S1x512x2048 : Shape := ⟨3, ![1, 512, 2048]⟩
abbrev S1x2048x512 : Shape := ⟨3, ![1, 2048, 512]⟩
abbrev S1x1024x2048 : Shape := ⟨3, ![1, 1024, 2048]⟩
abbrev S1x16x2048 : Shape := ⟨3, ![1, 16, 2048]⟩
abbrev S1x2048x1024 : Shape := ⟨3, ![1, 2048, 1024]⟩
abbrev S8x144x128 : Shape := ⟨3, ![8, 144, 128]⟩
abbrev S8x128 : Shape := ⟨2, ![8, 128]⟩
abbrev S256x256 : Shape := ⟨2, ![256, 256]⟩
abbrev S128x256 : Shape := ⟨2, ![128, 256]⟩
abbrev S16x256 : Shape := ⟨2, ![16, 256]⟩
abbrev S1x16x256 : Shape := ⟨3, ![1, 16, 256]⟩
abbrev S8x256 : Shape := ⟨2, ![8, 256]⟩
abbrev S8x1 : Shape := ⟨2, ![8, 1]⟩
abbrev S120x256 : Shape := ⟨2, ![120, 256]⟩
abbrev S256x128 : Shape := ⟨2, ![256, 128]⟩
abbrev S1x256x128 : Shape := ⟨3, ![1, 256, 128]⟩
abbrev S1x128x256 : Shape := ⟨3, ![1, 128, 256]⟩
abbrev S256x1 : Shape := ⟨2, ![256, 1]⟩
abbrev S1x256 : Shape := ⟨2, ![1, 256]⟩
abbrev S144x256 : Shape := ⟨2, ![144, 256]⟩
abbrev S1x144x128 : Shape := ⟨3, ![1, 144, 128]⟩
abbrev S144x128 : Shape := ⟨2, ![144, 128]⟩
abbrev S256 : Shape := ⟨1, ![256]⟩
abbrev S128x128 : Shape := ⟨2, ![128, 128]⟩
abbrev S1x1 : Shape := ⟨2, ![1, 1]⟩
abbrev S2x256x1024 : Shape := ⟨3, ![2, 256, 1024]⟩

abbrev nBuf : Space → Nat
  | .hbm => 11
  | .vmem => 15
  | .smem => 0
  | _ => 0

abbrev bufTy : (tb : Table) → Fin (tcTables nBuf tb) → BufTy
  | .hbm, ⟨0, _⟩ => ⟨S2x512x8192, .bf16⟩
  | .hbm, ⟨1, _⟩ => ⟨S2x8192x512, .bf16⟩
  | .hbm, ⟨2, _⟩ => ⟨S2x1024x8192, .bf16⟩
  | .hbm, ⟨3, _⟩ => ⟨S2x1024x8192, .bf16⟩
  | .hbm, ⟨4, _⟩ => ⟨S2x16x8192, .f32⟩
  | .hbm, ⟨5, _⟩ => ⟨S1x1024, .f32⟩
  | .hbm, ⟨6, _⟩ => ⟨S1024, .f32⟩
  | .hbm, ⟨7, _⟩ => ⟨S1024x1, .f32⟩
  | .hbm, ⟨8, _⟩ => ⟨S1024x128, .f32⟩
  | .hbm, ⟨9, _⟩ => ⟨S2x8192x1024, .bf16⟩
  | .hbm, ⟨10, _⟩ => ⟨S2x256x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x16x2048, .f32⟩
  | .local _ .vmem, ⟨9, _⟩ => ⟨S1x16x2048, .f32⟩
  | .local _ .vmem, ⟨10, _⟩ => ⟨S1024x128, .f32⟩
  | .local _ .vmem, ⟨11, _⟩ => ⟨S1x2048x1024, .bf16⟩
  | .local _ .vmem, ⟨12, _⟩ => ⟨S1x2048x1024, .bf16⟩
  | .local _ .vmem, ⟨13, _⟩ => ⟨S8x144x128, .f32⟩
  | .local _ .vmem, ⟨14, _⟩ => ⟨S8x128, .f32⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x512x8192 : Shape := ⟨3, ![2, 512, 8192]⟩
abbrev S2x8192x512 : Shape := ⟨3, ![2, 8192, 512]⟩
abbrev S2x1024x8192 : Shape := ⟨3, ![2, 1024, 8192]⟩
abbrev S2x16x8192 : Shape := ⟨3, ![2, 16, 8192]⟩
abbrev S1x1024 : Shape := ⟨2, ![1, 1024]⟩
abbrev S2x8x64x8192 : Shape := ⟨4, ![2, 8, 64, 8192]⟩
abbrev S2x8x8192x64 : Shape := ⟨4, ![2, 8, 8192, 64]⟩
abbrev S2x8192x8x64 : Shape := ⟨4, ![2, 8192, 8, 64]⟩
abbrev S2x8x128x8192 : Shape := ⟨4, ![2, 8, 128, 8192]⟩
abbrev S2x8x8192x128 : Shape := ⟨4, ![2, 8, 8192, 128]⟩
abbrev S2x8192x1024 : Shape := ⟨3, ![2, 8192, 1024]⟩
abbrev S2x8x8192 : Shape := ⟨3, ![2, 8, 8192]⟩
abbrev S_ : Shape := ⟨0, ![]⟩
abbrev S8192x8192 : Shape := ⟨2, ![8192, 8192]⟩
abbrev S2x8x8192x1 : Shape := ⟨4, ![2, 8, 8192, 1]⟩
abbrev S2x8x1x8192 : Shape := ⟨4, ![2, 8, 1, 8192]⟩
abbrev S2x8x8192x8192 : Shape := ⟨4, ![2, 8, 8192, 8192]⟩
abbrev S2x8192x8x128 : Shape := ⟨4, ![2, 8192, 8, 128]⟩
abbrev S1024 : Shape := ⟨1, ![1024]⟩
abbrev S1x1x1024 : Shape := ⟨3, ![1, 1, 1024]⟩
abbrev S2x256x1024 : Shape := ⟨3, ![2, 256, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x512x8192, .bf16⟩
  | .hbm, ⟨1, _⟩ => ⟨S2x8192x512, .bf16⟩
  | .hbm, ⟨2, _⟩ => ⟨S2x1024x8192, .bf16⟩
  | .hbm, ⟨3, _⟩ => ⟨S2x1024x8192, .bf16⟩
  | .hbm, ⟨4, _⟩ => ⟨S2x16x8192, .f32⟩
  | .hbm, ⟨5, _⟩ => ⟨S1x1024, .f32⟩
  | .hbm, ⟨6, _⟩ => ⟨S2x512x8192, .f32⟩
  | .hbm, ⟨7, _⟩ => ⟨S2x8x64x8192, .f32⟩
  | .hbm, ⟨8, _⟩ => ⟨S2x8x8192x64, .f32⟩
  | .hbm, ⟨9, _⟩ => ⟨S2x8192x512, .f32⟩
  | .hbm, ⟨10, _⟩ => ⟨S2x8192x8x64, .f32⟩
  | .hbm, ⟨11, _⟩ => ⟨S2x8x8192x64, .f32⟩
  | .hbm, ⟨12, _⟩ => ⟨S2x1024x8192, .f32⟩
  | .hbm, ⟨13, _⟩ => ⟨S2x8x128x8192, .f32⟩
  | .hbm, ⟨14, _⟩ => ⟨S2x8x8192x128, .f32⟩
  | .hbm, ⟨15, _⟩ => ⟨S2x1024x8192, .f32⟩
  | .hbm, ⟨16, _⟩ => ⟨S2x8192x1024, .f32⟩
  | .hbm, ⟨17, _⟩ => ⟨S2x8x8192, .f32⟩
  | .hbm, ⟨18, _⟩ => ⟨S2x8x8192, .f32⟩
  | .hbm, ⟨19, _⟩ => ⟨S2x8x8192, .f32⟩
  | .hbm, ⟨20, _⟩ => ⟨S_, .f32⟩
  | .hbm, ⟨21, _⟩ => ⟨S2x8x8192, .f32⟩
  | .hbm, ⟨22, _⟩ => ⟨S2x8x8192, .f32⟩
  | .hbm, ⟨23, _⟩ => ⟨S2x8x8192, .f32⟩
  | .hbm, ⟨24, _⟩ => ⟨S2x8x8192, .f32⟩
  | .hbm, ⟨25, _⟩ => ⟨S2x8x8192, .i1⟩
  | .hbm, ⟨26, _⟩ => ⟨S2x8x8192, .f32⟩
  | .hbm, ⟨27, _⟩ => ⟨S2x8x8192, .f32⟩
  | .hbm, ⟨28, _⟩ => ⟨S2x8x8192, .f32⟩
  | .hbm, ⟨29, _⟩ => ⟨S2x8x8192, .f32⟩
  | .hbm, ⟨30, _⟩ => ⟨S2x8x8192, .f32⟩
  | .hbm, ⟨31, _⟩ => ⟨S2x8x8192, .f32⟩
  | .hbm, ⟨32, _⟩ => ⟨S2x8x8192, .f32⟩
  | .hbm, ⟨33, _⟩ => ⟨S2x8x8192, .f32⟩
  | .hbm, ⟨34, _⟩ => ⟨S2x8x8192, .f32⟩
  | .hbm, ⟨35, _⟩ => ⟨S_, .f32⟩
  | .hbm, ⟨36, _⟩ => ⟨S_, .f32⟩
  | .hbm, ⟨37, _⟩ => ⟨S2x8x8192, .f32⟩
  | .hbm, ⟨38, _⟩ => ⟨S_, .i1⟩
  | .hbm, ⟨39, _⟩ => ⟨S8192x8192, .i1⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S_, .i1⟩
  | .hbm, ⟨47, _⟩ => ⟨S8192x8192, .i1⟩
  | .hbm, ⟨48, _⟩ => ⟨S8192x8192, .i1⟩
  | .hbm, ⟨49, _⟩ => ⟨S2x8x8192x1, .f32⟩
  | .hbm, ⟨50, _⟩ => ⟨S2x8x1x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x1x8192, .f32⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S_, .f32⟩
  | .hbm, ⟨59, _⟩ => ⟨S2x8x8192x8192, .i1⟩
  | .hbm, ⟨60, _⟩ => ⟨S2x8x8192x8192, .f32⟩
  | .hbm, ⟨61, _⟩ => ⟨S2x8x8192x8192, .f32⟩
  | .hbm, ⟨62, _⟩ => ⟨S_, .f32⟩
  | .hbm, ⟨63, _⟩ => ⟨S2x8x8192, .f32⟩
  | .hbm, ⟨64, _⟩ => ⟨S2x8x8192, .f32⟩
  | .hbm, ⟨65, _⟩ => ⟨S2x8x8192x8192, .f32⟩
  | .hbm, ⟨66, _⟩ => ⟨S2x8x8192x1, .f32⟩
  | .hbm, ⟨67, _⟩ => ⟨S2x8x8192x8192, .f32⟩
  | .hbm, ⟨68, _⟩ => ⟨S2x8x8192x8192, .f32⟩
  | .hbm, ⟨69, _⟩ => ⟨S2x8x8192x8192, .f32⟩
  | .hbm, ⟨70, _⟩ => ⟨S2x8x8192x8192, .f32⟩
  | .hbm, ⟨71, _⟩ => ⟨S2x8x8192x128, .f32⟩
  | .hbm, ⟨72, _⟩ => ⟨S_, .f32⟩
  | .hbm, ⟨73, _⟩ => ⟨S2x8x8192, .f32⟩
  | .hbm, ⟨74, _⟩ => ⟨S2x8x8192, .f32⟩
  | .hbm, ⟨75, _⟩ => ⟨S2x8x8192, .f32⟩
  | .hbm, ⟨76, _⟩ => ⟨S2x8x8192, .f32⟩
  | .hbm, ⟨77, _⟩ => ⟨S2x8x8192, .f32⟩
  | .hbm, ⟨78, _⟩ => ⟨S2x8x8192x1, .f32⟩
  | .hbm, ⟨79, _⟩ => ⟨S2x8x8192x128, .f32⟩
  | .hbm, ⟨80, _⟩ => ⟨S2x8x8192x128, .f32⟩
  | .hbm, ⟨81, _⟩ => ⟨S2x8x8192x128, .f32⟩
  | .hbm, ⟨82, _⟩ => ⟨S_, .f32⟩
  | .hbm, ⟨83, _⟩ => ⟨S2x8x8192, .f32⟩
  | .hbm, ⟨84, _⟩ => ⟨S2x8x8192x1, .f32⟩
  | .hbm, ⟨85, _⟩ => ⟨S_, .f32⟩
  | .hbm, ⟨86, _⟩ => ⟨S2x8x8192x1, .f32⟩
  | .hbm, ⟨87, _⟩ => ⟨S2x8x8192x1, .f32⟩
  | .hbm, ⟨88, _⟩ => ⟨S_, .f32⟩
  | .hbm, ⟨89, _⟩ => ⟨S2x8x8192x1, .f32⟩
  | .hbm, ⟨90, _⟩ => ⟨S2x8x8192x1, .f32⟩
  | .hbm, ⟨91, _⟩ => ⟨S2x8x8192x1, .f32⟩
  | .hbm, ⟨92, _⟩ => ⟨S2x8x8192x128, .f32⟩
  | .hbm, ⟨93, _⟩ => ⟨S2x8x8192x128, .f32⟩
  | .hbm, ⟨94, _⟩ => ⟨S2x8192x8x128, .f32⟩
  | .hbm, ⟨95, _⟩ => ⟨S2x8192x1024, .f32⟩
  | .hbm, ⟨96, _⟩ => ⟨S1024, .f32⟩
  | .hbm, ⟨97, _⟩ => ⟨S1x1x1024, .f32⟩
  | .hbm, ⟨98, _⟩ => ⟨S2x8192x1024, .f32⟩
  | .hbm, ⟨99, _⟩ => ⟨S2x8192x1024, .f32⟩
  | .hbm, ⟨100, _⟩ => ⟨S2x8192x1024, .f32⟩
  | .hbm, ⟨101, _⟩ => ⟨S2x8192x1024, .bf16⟩
  | .hbm, ⟨102, _⟩ => ⟨S2x256x1024, .bf16⟩
  | _, _ => ⟨S2x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v13 : Ref sig .tc := ⟨.hbm, 34, rfl⟩
abbrev main_call1_call0_cst : Ref sig .tc := ⟨.hbm, 35, rfl⟩
abbrev main_call1_call0_v0 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_0 : Ref sig .tc := ⟨.hbm, 46, rfl⟩
abbrev main_call2_v5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v25 : Ref sig .tc := ⟨.hbm, 61, rfl⟩
abbrev main_cst_0 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_1 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_2 : Ref sig .tc := ⟨.hbm, 82, rfl⟩
abbrev main_v44 : Ref sig .tc := ⟨.hbm, 83, rfl⟩
abbrev main_v45 : Ref sig .tc := ⟨.hbm, 84, rfl⟩
abbrev main_cst_3 : Ref sig .tc := ⟨.hbm, 85, rfl⟩
abbrev main_v46 : Ref sig .tc := ⟨.hbm, 86, rfl⟩
abbrev main_v47 : Ref sig .tc := ⟨.hbm, 87, rfl⟩
abbrev main_cst_4 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024x1024 : Shape := ⟨3, ![1, 1024, 1024]⟩
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 16
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x1024, .f32⟩
  | .hbm, ⟨2, _⟩ => ⟨S16384x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S16384x1024, .bf16⟩
  | .hbm, ⟨10, _⟩ => ⟨S1x1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S1x1024x1024 : Shape := ⟨3, ![1, 1024, 1024]⟩
abbrev S16384x1024 : Shape := ⟨2, ![16384, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x1024, .f32⟩
  | .hbm, ⟨2, _⟩ => ⟨S16384x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x5632, .f32⟩
  | .hbm, ⟨31, _⟩ => ⟨S1024x5632, .f32⟩
  | .hbm, ⟨32, _⟩ => ⟨S1x2816x1024, .f32⟩
  | .hbm, ⟨33, _⟩ => ⟨S2816x1024, .f32⟩
  | .hbm, ⟨34, _⟩ => ⟨S16384x5632, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 17
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x1024, .f32⟩
  | .hbm, ⟨2, _⟩ => ⟨S2x8192x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S16384x1024, .bf16⟩
  | .hbm, ⟨10, _⟩ => ⟨S1x1024x1024, .bf16⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x8192x1024 : Shape := ⟨3, ![2, 8192, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x1024, .f32⟩
  | .hbm, ⟨2, _⟩ => ⟨S2x8192x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x5632, .f32⟩
  | .hbm, ⟨32, _⟩ => ⟨S1024x5632, .f32⟩
  | .hbm, ⟨33, _⟩ => ⟨S1x2816x1024, .f32⟩
  | .hbm, ⟨34, _⟩ => ⟨S2816x1024, .f32⟩
  | .hbm, ⟨35, _⟩ => ⟨S16384x5632, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel4.lean ====
abbrev S2x8192x1024 : Shape := ⟨3, ![2, 8192, 1024]⟩
abbrev S1x1024 : Shape := ⟨2, ![1, 1024]⟩
abbrev S1x1024x3088 : Shape := ⟨3, ![1, 1024, 3088]⟩
abbrev S1x16 : Shape := ⟨2, ![1, 16]⟩
abbrev S1024x3088 : Shape := ⟨2, ![1024, 3088]⟩
abbrev S1024 : Shape := ⟨1, ![1024]⟩
abbrev S1024x512 : Shape := ⟨2, ![1024, 512]⟩
abbrev S512x1024 : Shape := ⟨2, ![512, 1024]⟩
abbrev S1024x1024 : Shape := ⟨2, ![1024, 1024]⟩
abbrev S1024x16 : Shape := ⟨2, ![1024, 16]⟩
abbrev S16x1024 : Shape := ⟨2, ![16, 1024]⟩
abbrev S16 : Shape := ⟨1, ![16]⟩
abbrev S16x1 : Shape := ⟨2, ![16, 1]⟩
abbrev S2x512x8192 : Shape := ⟨3, ![2, 512, 8192]⟩
abbrev S2x8192x512 : Shape := ⟨3, ![2, 8192, 512]⟩
abbrev S2x1024x8192 : Shape := ⟨3, ![2, 1024, 8192]⟩
abbrev S2x16x8192 : Shape := ⟨3, ![2, 16, 8192]⟩
abbrev S1x512x1024 : Shape := ⟨3, ![1, 512, 1024]⟩
abbrev S1x512x512 : Shape := ⟨3, ![1, 512, 512]⟩
abbrev S1x1024x512 : Shape := ⟨3, ![1, 1024, 512]⟩
abbrev S1x16x512 : Shape := ⟨3, ![1, 16, 512]⟩
abbrev S512 : Shape := ⟨1, ![512]⟩
abbrev S512x1 : Shape := ⟨2, ![512, 1]⟩
abbrev S512x512 : Shape := ⟨2, ![512, 512]⟩
abbrev S16x512 : Shape := ⟨2, ![16, 512]⟩

abbrev nBuf : Space → Nat
  | .hbm => 24
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3088, .f32⟩
  | .hbm, ⟨3, _⟩ => ⟨S1x16, .f32⟩
  | .hbm, ⟨4, _⟩ => ⟨S1024x3088, .f32⟩
  | .hbm, ⟨5, _⟩ => ⟨S1024x3088, .bf16⟩
  | .hbm, ⟨6, _⟩ => ⟨S1024, .f32⟩
  | .hbm, ⟨7, _⟩ => ⟨S1x1024, .f32⟩
  | .hbm, ⟨8, _⟩ => ⟨S1024x512, .bf16⟩
  | .hbm, ⟨9, _⟩ => ⟨S512x1024, .bf16⟩
  | .hbm, ⟨10, _⟩ => ⟨S1024x512, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x16, .bf16⟩
  | .hbm, ⟨16, _⟩ => ⟨S16x1024, .bf16⟩
  | .hbm, ⟨17, _⟩ => ⟨S16, .f32⟩
  | .hbm, ⟨18, _⟩ => ⟨S16x1, .f32⟩
  | .hbm, ⟨19, _⟩ => ⟨S2x512x8192, .bf16⟩
  | .hbm, ⟨20, _⟩ => ⟨S2x8192x512, .bf16⟩
  | .hbm, ⟨21, _⟩ => ⟨S2x1024x8192, .bf16⟩
  | .hbm, ⟨22, _⟩ => ⟨S2x1024x8192, .bf16⟩
  | .hbm, ⟨23, _⟩ => ⟨S2x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S512x1024, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S16x1024, .bf16⟩
  | .local _ .vmem, ⟨8, _⟩ => ⟨S16x1, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x16x512, .f32⟩
  | .local _ .vmem, ⟨18, _⟩ => ⟨S1x16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev main_v15_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S2x8192x1024 : Shape := ⟨3, ![2, 8192, 1024]⟩
abbrev S1x1024 : Shape := ⟨2, ![1, 1024]⟩
abbrev S1x1024x3088 : Shape := ⟨3, ![1, 1024, 3088]⟩
abbrev S1x16 : Shape := ⟨2, ![1, 16]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3088 : Shape := ⟨2, ![1024, 3088]⟩
abbrev S2x8192x3088 : Shape := ⟨3, ![2, 8192, 3088]⟩
abbrev S2x8192x512 : Shape := ⟨3, ![2, 8192, 512]⟩
abbrev S2x8192x16 : Shape := ⟨3, ![2, 8192, 16]⟩
abbrev S16 : Shape := ⟨1, ![16]⟩
abbrev S1x1x16 : Shape := ⟨3, ![1, 1, 16]⟩
abbrev S2x512x8192 : Shape := ⟨3, ![2, 512, 8192]⟩
abbrev S2x1024x8192 : Shape := ⟨3, ![2, 1024, 8192]⟩
abbrev S2x16x8192 : Shape := ⟨3, ![2, 16, 8192]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3088, .f32⟩
  | .hbm, ⟨3, _⟩ => ⟨S1x16, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x3088, .f32⟩
  | .hbm, ⟨22, _⟩ => ⟨S2x8192x3088, .f32⟩
  | .hbm, ⟨23, _⟩ => ⟨S2x8192x512, .f32⟩
  | .hbm, ⟨24, _⟩ => ⟨S_, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x16, .f32⟩
  | .hbm, ⟨39, _⟩ => ⟨S16, .f32⟩
  | .hbm, ⟨40, _⟩ => ⟨S1x1x16, .f32⟩
  | .hbm, ⟨41, _⟩ => ⟨S2x8192x16, .f32⟩
  | .hbm, ⟨42, _⟩ => ⟨S2x8192x16, .f32⟩
  | .hbm, ⟨43, _⟩ => ⟨S_, .f32⟩
  | .hbm, ⟨44, _⟩ => ⟨S2x8192x16, .f32⟩
  | .hbm, ⟨45, _⟩ => ⟨S2x8192x16, .f32⟩
  | .hbm, ⟨46, _⟩ => ⟨S2x8192x16, .f32⟩
  | .hbm, ⟨47, _⟩ => ⟨S_, .f32⟩
  | .hbm, ⟨48, _⟩ => ⟨S2x8192x16, .f32⟩
  | .hbm, ⟨49, _⟩ => ⟨S2x8192x16, .f32⟩
  | .hbm, ⟨50, _⟩ => ⟨S2x512x8192, .f32⟩
  | .hbm, ⟨51, _⟩ => ⟨S2x512x8192, .bf16⟩
  | .hbm, ⟨52, _⟩ => ⟨S2x8192x512, .bf16⟩
  | .hbm, ⟨53, _⟩ => ⟨S2x1024x8192, .f32⟩
  | .hbm, ⟨54, _⟩ => ⟨S2x1024x8192, .bf16⟩
  | .hbm, ⟨55, _⟩ => ⟨S2x1024x8192, .f32⟩
  | .hbm, ⟨56, _⟩ => ⟨S2x1024x8192, .bf16⟩
  | .hbm, ⟨57, _⟩ => ⟨S2x16x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel5.lean ====
abbrev S2x8192x1024 : Shape := ⟨3, ![2, 8192, 1024]⟩
abbrev S1x1024 : Shape := ⟨2, ![1, 1024]⟩
abbrev S1x1024x3072 : Shape := ⟨3, ![1, 1024, 3072]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S128x1 : Shape := ⟨2, ![128, 1]⟩
abbrev S8192x128 : Shape := ⟨2, ![8192, 128]⟩
abbrev S8x8192 : Shape := ⟨2, ![8, 8192]⟩
abbrev S1024x3072 : Shape := ⟨2, ![1024, 3072]⟩
abbrev S1024 : Shape := ⟨1, ![1024]⟩
abbrev S1024x1024 : Shape := ⟨2, ![1024, 1024]⟩
abbrev S2x1024x8192 : Shape := ⟨3, ![2, 1024, 8192]⟩
abbrev S2x32x1024x256 : Shape := ⟨4, ![2, 32, 1024, 256]⟩
abbrev S2x16x2x1024 : Shape := ⟨4, ![2, 16, 2, 1024]⟩
abbrev S1x512x1024 : Shape := ⟨3, ![1, 512, 1024]⟩
abbrev S512x128 : Shape := ⟨2, ![512, 128]⟩
abbrev S8x512 : Shape := ⟨2, ![8, 512]⟩
abbrev S1x1024x512 : Shape := ⟨3, ![1, 1024, 512]⟩
abbrev S1x2x1024x256 : Shape := ⟨4, ![1, 2, 1024, 256]⟩
abbrev S1x1x2x1024 : Shape := ⟨4, ![1, 1, 2, 1024]⟩
abbrev S512x1024 : Shape := ⟨2, ![512, 1024]⟩
abbrev S512 : Shape := ⟨1, ![512]⟩
abbrev S512x1 : Shape := ⟨2, ![512, 1]⟩
abbrev S1x512x128 : Shape := ⟨3, ![1, 512, 128]⟩
abbrev S256x128 : Shape := ⟨2, ![256, 128]⟩
abbrev S1x128 : Shape := ⟨2, ![1, 128]⟩
abbrev S1x1x1x128 : Shape := ⟨4, ![1, 1, 1, 128]⟩
abbrev S1024x512 : Shape := ⟨2, ![1024, 512]⟩
abbrev S64x512 : Shape := ⟨2, ![64, 512]⟩
abbrev S48x512 : Shape := ⟨2, ![48, 512]⟩
abbrev S1x64x512 : Shape := ⟨3, ![1, 64, 512]⟩
abbrev S1024x256 : Shape := ⟨2, ![1024, 256]⟩
abbrev S1x1x1024x256 : Shape := ⟨4, ![1, 1, 1024, 256]⟩

abbrev nBuf : Space → Nat
  | .hbm => 154
  | .vmem => 24
  | .smem => 0
  | _ => 0

abbrev hbmTy0_0 (i : Nat) : BufTy := match i % 128 with
  | 0 => ⟨S2x8192x1024, .f32⟩
  | 1 => ⟨S1x1024, .f32⟩
  | 2 => ⟨S1x1024x3072, .f32⟩
  | 3 => ⟨S8192, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8192x1, .f32⟩
  | 19 => ⟨S1x8, .f32⟩
  | 20 => ⟨S8192x8, .f32⟩
  | 21 => ⟨S8192x8, .f32⟩
  | 22 => ⟨S8192x8, .f32⟩
  | 23 => ⟨S8192x8, .f32⟩
  | 24 => ⟨S8192x8, .f32⟩
  | 25 => ⟨S128, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S128, .i32⟩
  | 33 => ⟨S128, .i32⟩
  | 34 => ⟨S_, .i32⟩
  | 35 => ⟨S128, .i32⟩
  | 36 => ⟨S128, .i1⟩
  | 37 => ⟨S_, .i32⟩
  | 38 => ⟨S128, .i32⟩
  | 39 => ⟨S128, .i1⟩
  | 40 => ⟨S_, .i32⟩
  | 41 => ⟨S_, .i1⟩
  | 42 => ⟨S128, .i1⟩
  | 43 => ⟨S128, .i1⟩
  | 44 => ⟨S128, .i1⟩
  | 45 => ⟨S128, .i32⟩
  | 46 => ⟨S128, .i32⟩
  | 47 => ⟨S128, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i1⟩
  | 62 => ⟨S_, .i32⟩
  | 63 => ⟨S_, .i1⟩
  | 64 => ⟨S128, .i1⟩
  | 65 => ⟨S128, .i1⟩
  | 66 => ⟨S128, .i1⟩
  | 67 => ⟨S128, .i32⟩
  | 68 => ⟨S128, .i32⟩
  | 69 => ⟨S128, .i32⟩
  | 70 => ⟨S_, .i32⟩
  | 71 => ⟨S128, .i32⟩
  | 72 => ⟨S128, .i1⟩
  | 73 => ⟨S_, .i32⟩
  | 74 => ⟨S128, .i32⟩
  | 75 => ⟨S128, .i32⟩
  | 76 => ⟨S128, .i32⟩
  | 77 => ⟨S128x1, .i32⟩
  | 78 => ⟨S8192x128, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S128, .i32⟩
  | 86 => ⟨S128, .i32⟩
  | 87 => ⟨S_, .i32⟩
  | 88 => ⟨S128, .i32⟩
  | 89 => ⟨S128, .i1⟩
  | 90 => ⟨S_, .i32⟩
  | 91 => ⟨S128, .i32⟩
  | 92 => ⟨S128, .i1⟩
  | 93 => ⟨S_, .i32⟩
  | 94 => ⟨S_, .i1⟩
  | 95 => ⟨S128, .i1⟩
  | 96 => ⟨S128, .i1⟩
  | 97 => ⟨S128, .i1⟩
  | 98 => ⟨S128, .i32⟩
  | 99 => ⟨S128, .i32⟩
  | 100 => ⟨S128, .i32⟩
  | 101 => ⟨S_, .i32⟩
  | 102 => ⟨S128, .i32⟩
  | 103 => ⟨S128, .i1⟩
  | 104 => ⟨S_, .i32⟩
  | 105 => ⟨S128, .i32⟩
  | 106 => ⟨S128, .i32⟩
  | 107 => ⟨S128, .i32⟩
  | 108 => ⟨S128x1, .i32⟩
  | 109 => ⟨S8192x128, .f32⟩
  | 110 => ⟨S_, .i32⟩
  | 111 => ⟨S128, .i32⟩
  | 112 => ⟨S128, .i1⟩
  | 113 => ⟨S_, .f32⟩
  | 114 => ⟨S_, .f32⟩
  | 115 => ⟨S8192x128, .i1⟩
  | 116 => ⟨S8192x128, .f32⟩
  | 117 => ⟨S8192x128, .f32⟩
  | 118 => ⟨S_, .i32⟩
  | 119 => ⟨S128, .i32⟩
  | 120 => ⟨S128, .i1⟩
  | 121 => ⟨S8192x128, .f32⟩
  | 122 => ⟨S_, .f32⟩
  | 123 => ⟨S_, .f32⟩
  | 124 => ⟨S8192x128, .i1⟩
  | 125 => ⟨S8192x128, .f32⟩
  | 126 => ⟨S8192x128, .f32⟩
  | 127 => ⟨S_, .i32⟩
  | _ => ⟨S2x8192x1024, .f32⟩

abbrev hbmTy0_1 (i : Nat) : BufTy := match i % 128 with
  | 0 => ⟨S128, .i32⟩
  | 1 => ⟨S128, .i1⟩
  | 2 => ⟨S_, .i32⟩
  | 3 => ⟨S128, .i32⟩
  | 4 => ⟨S128, .i1⟩
  | 5 => ⟨S128, .i1⟩
  | 6 => ⟨S_, .f32⟩
  | 7 => ⟨S_, .f32⟩
  | 8 => ⟨S8192x128, .i1⟩
  | 9 => ⟨S8192x128, .f32⟩
  | 10 => ⟨S8192x128, .f32⟩
  | 11 => ⟨S8x8192, .f32⟩
  | 12 => ⟨S8x8192, .f32⟩
  | 13 => ⟨S1024x3072, .f32⟩
  | 14 => ⟨S1024x3072, .bf16⟩
  | 15 => ⟨S1024, .f32⟩
  | 16 => ⟨S1x1024, .f32⟩
  | 17 => ⟨S1024x1024, .bf16⟩
  | 18 => ⟨S1024x1024, .bf16⟩
  | 19 => ⟨S1024x1024, .bf16⟩
  | 20 => ⟨S1024x1024, .bf16⟩
  | 21 => ⟨S1024x1024, .bf16⟩
  | 22 => ⟨S2x1024x8192, .bf16⟩
  | 23 => ⟨S2x8192x1024, .bf16⟩
  | 24 => ⟨S2x32x1024x256, .bf16⟩
  | 25 => ⟨S2x16x2x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2x1024x256, .bf16⟩
  | .local _ .vmem, ⟨21, _⟩ => ⟨S1x2x1024x256, .bf16⟩
  | .local _ .vmem, ⟨22, _⟩ => ⟨S1x1x2x1024, .f32⟩
  | .local _ .vmem, ⟨23, _⟩ => ⟨S1x1x2x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v19 : Ref sig .tc := ⟨.hbm, 47, rfl⟩
abbrev main_c_3 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v20 : Ref sig .tc := ⟨.hbm, 69, rfl⟩
abbrev main_c_4 : Ref sig .tc := ⟨.hbm, 70, rfl⟩
abbrev main_v21 : Ref sig .tc := ⟨.hbm, 71, rfl⟩
abbrev main_v22 : Ref sig .tc := ⟨.hbm, 72, rfl⟩
abbrev main_c_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_c_6 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v28 : Ref sig .tc := ⟨.hbm, 100, rfl⟩
abbrev main_c_7 : Ref sig .tc := ⟨.hbm, 101, rfl⟩
abbrev main_v29 : Ref sig .tc := ⟨.hbm, 102, rfl⟩
abbrev main_v30 : Ref sig .tc := ⟨.hbm, 103, rfl⟩
abbrev main_c_8 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_c_9 : Ref sig .tc := ⟨.hbm, 110, rfl⟩
abbrev main_v36 : Ref sig .tc := ⟨.hbm, 111, rfl⟩
abbrev main_v37 : Ref sig .tc := ⟨.hbm, 112, rfl⟩
abbrev main_cst_10 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v38 : Ref sig .tc := ⟨.hbm, 117, rfl⟩
abbrev main_c_11 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_cst_12 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v42 : Ref sig .tc := ⟨.hbm, 126, rfl⟩
abbrev main_c_13 : Ref sig .tc := ⟨.hbm, 127, rfl⟩
abbrev main_v43 : Ref sig .tc := ⟨.hbm, 128, rfl⟩
abbrev main_v44 : Ref sig .tc := ⟨.hbm, 129, rfl⟩
abbrev main_c_14 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_cst_15 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60_0 : Ref sig .tc := ⟨.hbm, 150, rfl⟩
abbrev main_v60_1 : Ref sig .tc := ⟨.hbm, 151, rfl⟩
abbrev main_v60_2 : Ref sig .tc := ⟨.hbm, 152, rfl⟩
abbrev main_v60_3 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S2x8192x1024 : Shape := ⟨3, ![2, 8192, 1024]⟩
abbrev S1x1024 : Shape := ⟨2, ![1, 1024]⟩
abbrev S1x1024x3072 : Shape := ⟨3, ![1, 1024, 3072]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x3x16x64 : Shape := ⟨5, ![2, 8192, 3, 16, 64]⟩
abbrev S3x2x16x8192x64 : Shape := ⟨5, ![3, 2, 16, 8192, 64]⟩
abbrev S1x2x16x8192x64 : Shape := ⟨5, ![1, 2, 16, 8192, 64]⟩
abbrev S2x16x8192x64 : Shape := ⟨4, ![2, 16, 8192, 64]⟩
abbrev S2x16x8192x8 : Shape := ⟨4, ![2, 16, 8192, 8]⟩
abbrev S2x16x8192x48 : Shape := ⟨4, ![2, 16, 8192, 48]⟩
abbrev S1x1x8192x8 : Shape := ⟨4, ![1, 1, 8192, 8]⟩
abbrev S2x16x32x256x64 : Shape := ⟨5, ![2, 16, 32, 256, 64]⟩
abbrev S2x16x32x64 : Shape := ⟨4, ![2, 16, 32, 64]⟩
abbrev S2x16x64x8192 : Shape := ⟨4, ![2, 16, 64, 8192]⟩
abbrev S2x1024x8192 : Shape := ⟨3, ![2, 1024, 8192]⟩
abbrev S2x8192x16x64 : Shape := ⟨4, ![2, 8192, 16, 64]⟩
abbrev S2x32x16x64x256 : Shape := ⟨5, ![2, 32, 16, 64, 256]⟩
abbrev S2x32x1024x256 : Shape := ⟨4, ![2, 32, 1024, 256]⟩
abbrev S2x32x16x64 : Shape := ⟨4, ![2, 32, 16, 64]⟩
abbrev S2x16x2x1024 : Shape := ⟨4, ![2, 16, 2, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S8192, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S1024x3072, .f32⟩
  | .hbm, ⟨43, _⟩ => ⟨S2x8192x3072, .f32⟩
  | .hbm, ⟨44, _⟩ => ⟨S2x8192x3x16x64, .f32⟩
  | .hbm, ⟨45, _⟩ => ⟨S3x2x16x8192x64, .f32⟩
  | .hbm, ⟨46, _⟩ => ⟨S1x2x16x8192x64, .f32⟩
  | .hbm, ⟨47, _⟩ => ⟨S2x16x8192x64, .f32⟩
  | .hbm, ⟨48, _⟩ => ⟨S2x16x8192x8, .f32⟩
  | .hbm, ⟨49, _⟩ => ⟨S2x16x8192x8, .f32⟩
  | .hbm, ⟨50, _⟩ => ⟨S2x16x8192x48, .f32⟩
  | .hbm, ⟨51, _⟩ => ⟨S1x1x8192x8, .f32⟩
  | .hbm, ⟨52, _⟩ => ⟨S2x16x8192x8, .f32⟩
  | .hbm, ⟨53, _⟩ => ⟨S2x16x8192x8, .f32⟩
  | .hbm, ⟨54, _⟩ => ⟨S1x1x8192x8, .f32⟩
  | .hbm, ⟨55, _⟩ => ⟨S2x16x8192x8, .f32⟩
  | .hbm, ⟨56, _⟩ => ⟨S2x16x8192x8, .f32⟩
  | .hbm, ⟨57, _⟩ => ⟨S2x16x8192x8, .f32⟩
  | .hbm, ⟨58, _⟩ => ⟨S1x1x8192x8, .f32⟩
  | .hbm, ⟨59, _⟩ => ⟨S2x16x8192x8, .f32⟩
  | .hbm, ⟨60, _⟩ => ⟨S2x16x8192x8, .f32⟩
  | .hbm, ⟨61, _⟩ => ⟨S1x1x8192x8, .f32⟩
  | .hbm, ⟨62, _⟩ => ⟨S2x16x8192x8, .f32⟩
  | .hbm, ⟨63, _⟩ => ⟨S2x16x8192x8, .f32⟩
  | .hbm, ⟨64, _⟩ => ⟨S2x16x8192x8, .f32⟩
  | .hbm, ⟨65, _⟩ => ⟨S2x16x8192x64, .f32⟩
  | .hbm, ⟨66, _⟩ => ⟨S_, .f32⟩
  | .hbm, ⟨67, _⟩ => ⟨S2x16x8192x64, .f32⟩
  | .hbm, ⟨68, _⟩ => ⟨S2x16x8192x64, .f32⟩
  | .hbm, ⟨69, _⟩ => ⟨S1x2x16x8192x64, .f32⟩
  | .hbm, ⟨70, _⟩ => ⟨S2x16x8192x64, .f32⟩
  | .hbm, ⟨71, _⟩ => ⟨S2x16x8192x8, .f32⟩
  | .hbm, ⟨72, _⟩ => ⟨S2x16x8192x8, .f32⟩
  | .hbm, ⟨73, _⟩ => ⟨S2x16x8192x48, .f32⟩
  | .hbm, ⟨74, _⟩ => ⟨S1x1x8192x8, .f32⟩
  | .hbm, ⟨75, _⟩ => ⟨S2x16x8192x8, .f32⟩
  | .hbm, ⟨76, _⟩ => ⟨S2x16x8192x8, .f32⟩
  | .hbm, ⟨77, _⟩ => ⟨S1x1x8192x8, .f32⟩
  | .hbm, ⟨78, _⟩ => ⟨S2x16x8192x8, .f32⟩
  | .hbm, ⟨79, _⟩ => ⟨S2x16x8192x8, .f32⟩
  | .hbm, ⟨80, _⟩ => ⟨S2x16x8192x8, .f32⟩
  | .hbm, ⟨81, _⟩ => ⟨S1x1x8192x8, .f32⟩
  | .hbm, ⟨82, _⟩ => ⟨S2x16x8192x8, .f32⟩
  | .hbm, ⟨83, _⟩ => ⟨S2x16x8192x8, .f32⟩
  | .hbm, ⟨84, _⟩ => ⟨S1x1x8192x8, .f32⟩
  | .hbm, ⟨85, _⟩ => ⟨S2x16x8192x8, .f32⟩
  | .hbm, ⟨86, _⟩ => ⟨S2x16x8192x8, .f32⟩
  | .hbm, ⟨87, _⟩ => ⟨S2x16x8192x8, .f32⟩
  | .hbm, ⟨88, _⟩ => ⟨S2x16x8192x64, .f32⟩
  | .hbm, ⟨89, _⟩ => ⟨S1x2x16x8192x64, .f32⟩
  | .hbm, ⟨90, _⟩ => ⟨S2x16x8192x64, .f32⟩
  | .hbm, ⟨91, _⟩ => ⟨S2x16x32x256x64, .f32⟩
  | .hbm, ⟨92, _⟩ => ⟨S_, .f32⟩
  | .hbm, ⟨93, _⟩ => ⟨S2x16x32x64, .f32⟩
  | .hbm, ⟨94, _⟩ => ⟨S_, .f32⟩
  | .hbm, ⟨95, _⟩ => ⟨S2x16x32x64, .f32⟩
  | .hbm, ⟨96, _⟩ => ⟨S2x16x32x64, .f32⟩
  | .hbm, ⟨97, _⟩ => ⟨S2x16x32x256x64, .f32⟩
  | .hbm, ⟨98, _⟩ => ⟨S2x16x64x8192, .f32⟩
  | .hbm, ⟨99, _⟩ => ⟨S2x1024x8192, .f32⟩
  | .hbm, ⟨100, _⟩ => ⟨S2x1024x8192, .bf16⟩
  | .hbm, ⟨101, _⟩ => ⟨S2x8192x16x64, .f32⟩
  | .hbm, ⟨102, _⟩ => ⟨S2x8192x1024, .f32⟩
  | .hbm, ⟨103, _⟩ => ⟨S2x8192x1024, .bf16⟩
  | .hbm, ⟨104, _⟩ => ⟨S2x32x16x64x256, .f32⟩
  | .hbm, ⟨105, _⟩ => ⟨S2x32x1024x256, .f32⟩
  | .hbm, ⟨106, _⟩ => ⟨S2x32x1024x256, .bf16⟩
  | .hbm, ⟨107, _⟩ => ⟨S2x32x16x64, .f32⟩
  | .hbm, ⟨108, _⟩ => ⟨S2x16x2x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_7 : Ref sig .tc := ⟨.hbm, 92, rfl⟩
abbrev main_v81 : Ref sig .tc := ⟨.hbm, 93, rfl⟩
abbrev main_cst_8 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]
-- ==== Proof.FfnFinal.lean ====
/-
  The second program: the output projection, the feed-forward block and the closing row norm of the last layer. What the kernel
  leaves in its one result array is, entry by entry, what the reference computes from the same seven arguments.
-/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Claim

@[expose] public section

noncomputable section

namespace Cert.Proof.FfnFinal

open Idealize.ShloMosaic Idealize.ShloMosaic.TcCoe Idealize.SL.Sem Cert.Kernel2Ideal Cert.Kernel2Ideal.Gen
open Cert.Reference2Ideal.Read

variable (m : (ℓ : Loc nD τ sig) → Buf (Elt Ideal) ℓ)

/-- Where each window's block sits at grid point `t`. -/
theorem places : ∀ t : Fin cfg0.N,
    win0_0.index t = ![t.val, 0] ∧ win0_1.index t = ![0, 0, 0] ∧ win0_2.index t = ![t.val, 0]
      ∧ win0_3.index t = ![0, 0] ∧ win0_4.index t = ![1, 0, 0] ∧ win0_5.index t = ![1, 0, 1]
      ∧ win0_6.index t = ![1, 0, 0] ∧ win0_7.index t = ![0, 0] ∧ win0_8.index t = ![t.val, 0] :=
  (by decide +kernel : ∀ t : Fin grid0.N,
    win0_0.index t = ![t.val, 0] ∧ win0_1.index t = ![0, 0, 0] ∧ win0_2.index t = ![t.val, 0]
      ∧ win0_3.index t = ![0, 0] ∧ win0_4.index t = ![1, 0, 0] ∧ win0_5.index t = ![1, 0, 1]
      ∧ win0_6.index t = ![1, 0, 0] ∧ win0_7.index t = ![0, 0] ∧ win0_8.index t = ![t.val, 0])

/-- The array row that row `r` of the block at point `t` is. -/
def row (t : Fin cfg0.N) (r : Fin 512) : Fin 16384 :=
  ⟨t.val * 512 + r.val, by have h : t.val < 32 := t.isLt; have := r.isLt; omega⟩

/-- The reference's residual stream after the output projection. -/
abbrev hidden (c : Dev nD) := val_main_v4 (F := Ideal) (m ((c : Thread nD τ).loc main_arg0))
  (m ((c : Thread nD τ).loc main_arg1)) (m ((c : Thread nD τ).loc main_arg2))

/-- The reference's two up-projections, side by side. -/
abbrev gateUp (c : Dev nD) := val_main_v24 (F := Ideal) (m ((c : Thread nD τ).loc main_arg0))
  (m ((c : Thread nD τ).loc main_arg1)) (m ((c : Thread nD τ).loc main_arg2)) (m ((c : Thread nD τ).loc main_arg3))
  (m ((c : Thread nD τ).loc main_arg4))

/-- The reference's gated product. -/
abbrev gated (c : Dev nD) := val_main_v28 (F := Ideal) (m ((c : Thread nD τ).loc main_arg0))
  (m ((c : Thread nD τ).loc main_arg1)) (m ((c : Thread nD τ).loc main_arg2)) (m ((c : Thread nD τ).loc main_arg3))
  (m ((c : Thread nD τ).loc main_arg4))

/-- The reference's residual stream after the feed-forward block. -/
abbrev after (c : Dev nD) := val_main_v30 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5))

/-- The block's residual stream is the reference's on the block's rows. -/
theorem hidden_at (c : Dev nD) (t : Fin cfg0.N) (r : Fin 512) (e : Fin 1024) :
    k0_pay2 (F := Ideal) (iblk m c 0 t) (iblk m c 1 t) (iblk m c 2 t) (ix2 r e) = hidden m c (ix2 (row t r) e) := by
  have hp := places t
  have ht : t.val < 32 := t.isLt
  unfold hidden
  pointwise [k0_pay2, val_main_v4, val_main_v3, val_main_v2, val_main_v1, val_main_v0]
  rw [add_comm]
  unfold row
  blk_point [iblk, V, hp]

/-- The reference's up-projections at a column: the normalised row against the column of the weights. -/
theorem gateUp_at (c : Dev nD) (R : Fin 16384) (f : Fin 5632) :
    gateUp m c (ix2 R f) = ∑ x : Fin 1024, hidden m c (ix2 R x)
      * Ideal.rsqrt (Ideal.div (∑ y : Fin 1024, hidden m c (ix2 R y) * hidden m c (ix2 R y)) (Ideal.ofBits .f32 0x44800000#32)
          + Ideal.ofBits .f32 0x358637BD#32)
      * m ((c : Thread nD τ).loc main_arg3) (ix2 (1 : Fin 2) x) * m ((c : Thread nD τ).loc main_arg4) (ix3 (1 : Fin 2) x f) := by
  unfold gateUp val_main_v24 val_main_v19 val_main_v16 val_main_v15 val_main_v14 val_main_v13 val_main_v11 val_main_v9
    val_main_v8 val_main_v7 hidden
  generalize val_main_v4 (F := Ideal) (m ((c : Thread nD τ).loc main_arg0))
    (m ((c : Thread nD τ).loc main_arg1)) (m ((c : Thread nD τ).loc main_arg2)) = H
  pointwise [val_main_v18, val_main_v17, val_main_v12, val_main_cst, val_main_cst_0, val_main_cst_1, val_main_v10,
    val_main_v6, val_main_v5, val_main_v20, val_main_v21]

/-- The reference's gated product from its up-projections. -/
theorem gated_at (c : Dev nD) (R : Fin 16384) (f : Fin 2816) :
    gated m c (ix2 R f) = gateUp m c (ix2 R (⟨f.val, by omega⟩ : Fin 5632))
      * Ideal.logistic (gateUp m c (ix2 R (⟨f.val, by omega⟩ : Fin 5632)))
      * gateUp m c (ix2 R (⟨2816 + f.val, by omega⟩ : Fin 5632)) := by
  unfold gated
  simp only [val_main_v28, val_main_v27, val_main_call0_v5, val_main_call0_v4, val_main_call0_cst_0, val_main_call0_v3,
    val_main_call0_v2, val_main_call0_cst, val_main_call0_v1, val_main_call0_v0, val_main_v26, val_main_v25]
  unfold gateUp
  pointwise
  simp only [Ideal.logistic]

/-- The block's first weight window holds the gate columns, the second the up columns. -/
theorem gate_col (c : Dev nD) (t : Fin cfg0.N) (x : Fin 1024) (f : Fin 2816) :
    iblk m c 4 t (ix3 (0 : Fin 1) x f)
      = m ((c : Thread nD τ).loc main_arg4) (ix3 (1 : Fin 2) x (⟨f.val, by omega⟩ : Fin 5632)) := by
  have hp := places t
  blk_point [iblk, V, hp]

theorem up_col (c : Dev nD) (t : Fin cfg0.N) (x : Fin 1024) (f : Fin 2816) :
    iblk m c 5 t (ix3 (0 : Fin 1) x f)
      = m ((c : Thread nD τ).loc main_arg4) (ix3 (1 : Fin 2) x (⟨2816 + f.val, by omega⟩ : Fin 5632)) := by
  have hp := places t
  blk_point [iblk, V, hp]

theorem norm_row (c : Dev nD) (t : Fin cfg0.N) (x : Fin 1024) :
    iblk m c 3 t (ix2 (0 : Fin 1) x) = m ((c : Thread nD τ).loc main_arg3) (ix2 (1 : Fin 2) x) := by
  have hp := places t
  blk_point [iblk, V, hp]

theorem down_at (c : Dev nD) (t : Fin cfg0.N) (f : Fin 2816) (e : Fin 1024) :
    iblk m c 6 t (ix3 (0 : Fin 1) f e) = m ((c : Thread nD τ).loc main_arg5) (ix3 (1 : Fin 2) f e) := by
  have hp := places t
  blk_point [iblk, V, hp]

theorem last_row (c : Dev nD) (t : Fin cfg0.N) (x : Fin 1024) :
    iblk m c 7 t (ix2 (0 : Fin 1) x) = m ((c : Thread nD τ).loc main_arg6) (ix1 x) := by
  have hp := places t
  blk_point [iblk, V, hp]

/-- The block's gated product is the reference's on the block's rows. -/
theorem gated_blk (c : Dev nD) (t : Fin cfg0.N) (r : Fin 512) (f : Fin 2816) :
    k0_pay3 (F := Ideal) (iblk m c 0 t) (iblk m c 1 t) (iblk m c 2 t) (iblk m c 3 t) (iblk m c 4 t) (iblk m c 5 t) (ix2 r f)
      = gated m c (ix2 (row t r) f) := by
  rw [gated_at, gateUp_at, gateUp_at]
  have hh := hidden_at m c t r
  have hg := fun x => gate_col m c t x f
  have hu := fun x => up_col m c t x f
  have hn := norm_row m c t
  unfold k0_pay3
  generalize k0_pay2 (F := Ideal) (iblk m c 0 t) (iblk m c 1 t) (iblk m c 2 t) = H at hh ⊢
  generalize hidden m c = H' at hh ⊢
  pointwise
  simp only [hh, hg, hu, hn]

/-- The block's result is the reference's on the block's rows. -/
theorem result_blk (c : Dev nD) (t : Fin cfg0.N) (r : Fin 512) (e : Fin 1024) :
    k0_pay1 (F := Ideal) (k0_pay2 (iblk m c 0 t) (iblk m c 1 t) (iblk m c 2 t))
      (k0_pay3 (iblk m c 0 t) (iblk m c 1 t) (iblk m c 2 t) (iblk m c 3 t) (iblk m c 4 t) (iblk m c 5 t))
      (k0_pay4 (iblk m c 6 t)) (constant S512x1024 .f32 0x00000000#32) (iblk m c 7 t) (ix2 r e)
    = val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 (row t r) e) := by
  have hh := hidden_at m c t r
  have hg := gated_blk m c t r
  have hd := down_at m c t
  have hl := last_row m c t
  have hA : ∀ y : Fin 1024, after m c (ix2 (row t r) y) = hidden m c (ix2 (row t r) y)
      + ∑ f : Fin 2816, gated m c (ix2 (row t r) f) * m ((c : Thread nD τ).loc main_arg5) (ix3 (1 : Fin 2) f y) := by
    intro y
    unfold after val_main_v30 val_main_v29
    unfold hidden gated
    pointwise [val_main_v22, val_main_v23]
  unfold k0_pay1
  generalize k0_pay2 (F := Ideal) (iblk m c 0 t) (iblk m c 1 t) (iblk m c 2 t) = H at hh ⊢
  generalize k0_pay3 (F := Ideal) (iblk m c 0 t) (iblk m c 1 t) (iblk m c 2 t) (iblk m c 3 t) (iblk m c 4 t) (iblk m c 5 t) = P at hg ⊢
  pointwise [k0_pay4]
  simp only [hh, hg, hd, hl]
  simp only [← hA]
  unfold val_main_v43 val_main_v40 val_main_v39 val_main_v38 val_main_v37 val_main_v35 val_main_v33 val_main_v32 val_main_v31
  unfold after
  generalize val_main_v30 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) = A
  pointwise [val_main_v42, val_main_v41, val_main_v36, val_main_v34, val_main_cst_2, val_main_cst_3, val_main_cst_4]

/-- The kernel's result array after the run is the reference's result on the same arguments. -/
theorem final (c : Dev nD) : (dats m 0 c).arrAt 8 (cfgs 0).N
    = val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  blk_simp
  rw [after0_8]
  frame_out
  have hy : y = ix2 (y 0 : Fin 512) (y 1 : Fin 1024) := by
    funext a; fin_cases a <;> rfl
  refine (congrArg _ hy).trans ((result_blk m c t (y 0) (y 1)).trans (congrArg _ ?_))
  have hp := places t
  unfold row
  blk_ext [hp]

/-- Both run; from equal arguments they end with equal results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (dats m 0 c).arrAt 8 (cfgs 0).N, Cert.Kernel2Ideal.Value.run_blocks (F := Ideal) m g, ?_⟩
  refine (θ_run (Cert.Reference2Ideal.defs (F := Ideal)) _ _).mono (fun r h c => ?_)
    (Cert.Reference2Ideal.Value.run (F := Ideal) m' g')
  obtain ⟨hv, hrest⟩ := h c
  refine ⟨hv.trans ?_, hrest⟩
  obtain ⟨h0, h1, h2, h3, h4, h5, h6⟩ := hargs c
  refine Eq.trans ?_ (final m c).symm
  rw [val_main_v43_eq, h0, h1, h2, h3, h4, h5, h6]

end Cert.Proof.FfnFinal

end
-- ==== Proof.FfnFirst.lean ====
/-
  The third program: the output projection and the feed-forward block of the first layer. What the kernel
  leaves in its one result array is, entry by entry, what the reference computes from the same seven arguments.
-/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Claim

@[expose] public section

noncomputable section

namespace Cert.Proof.FfnFirst

open Idealize.ShloMosaic Idealize.ShloMosaic.TcCoe Idealize.SL.Sem Cert.Kernel3Ideal Cert.Kernel3Ideal.Gen
open Cert.Reference3Ideal.Read

variable (m : (ℓ : Loc nD τ sig) → Buf (Elt Ideal) ℓ)

/-- Where each window's block sits at grid point `t`. -/
theorem places : ∀ t : Fin cfg0.N,
    win0_0.index t = ![t.val, 0] ∧ win0_1.index t = ![0, 0, 0] ∧ win0_2.index t = ![t.val, 0]
      ∧ win0_3.index t = ![0, 0] ∧ win0_4.index t = ![0, 0, 0] ∧ win0_5.index t = ![0, 0, 1]
      ∧ win0_6.index t = ![0, 0, 0] ∧ win0_7.index t = ![0, 0] ∧ win0_8.index t = ![t.val, 0] :=
  (by decide +kernel : ∀ t : Fin grid0.N,
    win0_0.index t = ![t.val, 0] ∧ win0_1.index t = ![0, 0, 0] ∧ win0_2.index t = ![t.val, 0]
      ∧ win0_3.index t = ![0, 0] ∧ win0_4.index t = ![0, 0, 0] ∧ win0_5.index t = ![0, 0, 1]
      ∧ win0_6.index t = ![0, 0, 0] ∧ win0_7.index t = ![0, 0] ∧ win0_8.index t = ![t.val, 0])

/-- The array row that row `r` of the block at point `t` is. -/
def row (t : Fin cfg0.N) (r : Fin 512) : Fin 16384 :=
  ⟨t.val * 512 + r.val, by have h : t.val < 32 := t.isLt; have := r.isLt; omega⟩

/-- The reference's residual stream after the output projection. -/
abbrev hidden (c : Dev nD) := val_main_v5 (F := Ideal) (m ((c : Thread nD τ).loc main_arg0))
  (m ((c : Thread nD τ).loc main_arg1)) (m ((c : Thread nD τ).loc main_arg2))

/-- The reference's two up-projections, side by side. -/
abbrev gateUp (c : Dev nD) := val_main_v25 (F := Ideal) (m ((c : Thread nD τ).loc main_arg0))
  (m ((c : Thread nD τ).loc main_arg1)) (m ((c : Thread nD τ).loc main_arg2)) (m ((c : Thread nD τ).loc main_arg3))
  (m ((c : Thread nD τ).loc main_arg4))

/-- The reference's gated product. -/
abbrev gated (c : Dev nD) := val_main_v29 (F := Ideal) (m ((c : Thread nD τ).loc main_arg0))
  (m ((c : Thread nD τ).loc main_arg1)) (m ((c : Thread nD τ).loc main_arg2)) (m ((c : Thread nD τ).loc main_arg3))
  (m ((c : Thread nD τ).loc main_arg4))

/-- The block's residual stream is the reference's on the block's rows. -/
theorem hidden_at (c : Dev nD) (t : Fin cfg0.N) (r : Fin 512) (e : Fin 1024) :
    k0_pay2 (F := Ideal) (iblk m c 0 t) (iblk m c 1 t) (iblk m c 2 t) (ix2 r e) = hidden m c (ix2 (row t r) e) := by
  have hp := places t
  have ht : t.val < 32 := t.isLt
  unfold hidden
  pointwise [k0_pay2, val_main_v5, val_main_v4, val_main_v3, val_main_v2, val_main_v1, val_main_v0]
  rw [add_comm]
  unfold row
  blk_point [iblk, V, hp]

/-- The reference's up-projections at a column: the normalised row against the column of the weights. -/
theorem gateUp_at (c : Dev nD) (R : Fin 16384) (f : Fin 5632) :
    gateUp m c (ix2 R f) = ∑ x : Fin 1024, hidden m c (ix2 R x)
      * Ideal.rsqrt (Ideal.div (∑ y : Fin 1024, hidden m c (ix2 R y) * hidden m c (ix2 R y)) (Ideal.ofBits .f32 0x44800000#32)
          + Ideal.ofBits .f32 0x358637BD#32)
      * m ((c : Thread nD τ).loc main_arg3) (ix2 (0 : Fin 2) x) * m ((c : Thread nD τ).loc main_arg4) (ix3 (0 : Fin 2) x f) := by
  unfold gateUp val_main_v25 val_main_v20 val_main_v17 val_main_v16 val_main_v15 val_main_v14 val_main_v12 val_main_v10
    val_main_v9 val_main_v8 hidden
  generalize val_main_v5 (F := Ideal) (m ((c : Thread nD τ).loc main_arg0))
    (m ((c : Thread nD τ).loc main_arg1)) (m ((c : Thread nD τ).loc main_arg2)) = H
  pointwise [val_main_v19, val_main_v18, val_main_v13, val_main_cst, val_main_cst_0, val_main_cst_1, val_main_v11,
    val_main_v7, val_main_v6, val_main_v21, val_main_v22]

/-- The reference's gated product from its up-projections. -/
theorem gated_at (c : Dev nD) (R : Fin 16384) (f : Fin 2816) :
    gated m c (ix2 R f) = gateUp m c (ix2 R (⟨f.val, by omega⟩ : Fin 5632))
      * Ideal.logistic (gateUp m c (ix2 R (⟨f.val, by omega⟩ : Fin 5632)))
      * gateUp m c (ix2 R (⟨2816 + f.val, by omega⟩ : Fin 5632)) := by
  unfold gated
  simp only [val_main_v29, val_main_v28, val_main_call0_v5, val_main_call0_v4, val_main_call0_cst_0, val_main_call0_v3,
    val_main_call0_v2, val_main_call0_cst, val_main_call0_v1, val_main_call0_v0, val_main_v27, val_main_v26]
  unfold gateUp
  pointwise
  simp only [Ideal.logistic]

/-- The block's first weight window holds the gate columns, the second the up columns. -/
theorem gate_col (c : Dev nD) (t : Fin cfg0.N) (x : Fin 1024) (f : Fin 2816) :
    iblk m c 4 t (ix3 (0 : Fin 1) x f)
      = m ((c : Thread nD τ).loc main_arg4) (ix3 (0 : Fin 2) x (⟨f.val, by omega⟩ : Fin 5632)) := by
  have hp := places t
  blk_point [iblk, V, hp]

theorem up_col (c : Dev nD) (t : Fin cfg0.N) (x : Fin 1024) (f : Fin 2816) :
    iblk m c 5 t (ix3 (0 : Fin 1) x f)
      = m ((c : Thread nD τ).loc main_arg4) (ix3 (0 : Fin 2) x (⟨2816 + f.val, by omega⟩ : Fin 5632)) := by
  have hp := places t
  blk_point [iblk, V, hp]

theorem norm_row (c : Dev nD) (t : Fin cfg0.N) (x : Fin 1024) :
    iblk m c 3 t (ix2 (0 : Fin 1) x) = m ((c : Thread nD τ).loc main_arg3) (ix2 (0 : Fin 2) x) := by
  have hp := places t
  blk_point [iblk, V, hp]

theorem down_at (c : Dev nD) (t : Fin cfg0.N) (f : Fin 2816) (e : Fin 1024) :
    iblk m c 6 t (ix3 (0 : Fin 1) f e) = m ((c : Thread nD τ).loc main_arg5) (ix3 (0 : Fin 2) f e) := by
  have hp := places t
  blk_point [iblk, V, hp]

/-- The block's gated product is the reference's on the block's rows. -/
theorem gated_blk (c : Dev nD) (t : Fin cfg0.N) (r : Fin 512) (f : Fin 2816) :
    k0_pay3 (F := Ideal) (iblk m c 0 t) (iblk m c 1 t) (iblk m c 2 t) (iblk m c 3 t) (iblk m c 4 t) (iblk m c 5 t) (ix2 r f)
      = gated m c (ix2 (row t r) f) := by
  rw [gated_at, gateUp_at, gateUp_at]
  have hh := hidden_at m c t r
  have hg := fun x => gate_col m c t x f
  have hu := fun x => up_col m c t x f
  have hn := norm_row m c t
  unfold k0_pay3
  generalize k0_pay2 (F := Ideal) (iblk m c 0 t) (iblk m c 1 t) (iblk m c 2 t) = H at hh ⊢
  generalize hidden m c = H' at hh ⊢
  pointwise
  simp only [hh, hg, hu, hn]

/-- The block's result is the reference's on the block's rows. -/
theorem result_blk (c : Dev nD) (t : Fin cfg0.N) (r : Fin 512) (e : Fin 1024) :
    k0_pay1 (F := Ideal) (k0_pay2 (iblk m c 0 t) (iblk m c 1 t) (iblk m c 2 t))
      (k0_pay3 (iblk m c 0 t) (iblk m c 1 t) (iblk m c 2 t) (iblk m c 3 t) (iblk m c 4 t) (iblk m c 5 t))
      (k0_pay4 (iblk m c 6 t)) (ix2 r e)
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 (row t r) e) := by
  have hh := hidden_at m c t r
  have hg := gated_blk m c t r
  have hd := down_at m c t
  unfold k0_pay1
  generalize k0_pay2 (F := Ideal) (iblk m c 0 t) (iblk m c 1 t) (iblk m c 2 t) = H at hh ⊢
  generalize k0_pay3 (F := Ideal) (iblk m c 0 t) (iblk m c 1 t) (iblk m c 2 t) (iblk m c 3 t) (iblk m c 4 t) (iblk m c 5 t) = P at hg ⊢
  pointwise [k0_pay4]
  simp only [hh, hg, hd]
  unfold val_main_v31 val_main_v30
  unfold hidden gated
  pointwise [val_main_v23, val_main_v24]

/-- The kernel's result array after the run is the reference's result on the same arguments. -/
theorem final (c : Dev nD) : (dats m 0 c).arrAt 8 (cfgs 0).N
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t hf y => ?_
  blk_simp
  rw [after0_8]
  frame_out
  have hy : y = ix2 (y 0 : Fin 512) (y 1 : Fin 1024) := by
    funext a; fin_cases a <;> rfl
  refine (congrArg _ hy).trans ((result_blk m c t (y 0) (y 1)).trans (congrArg _ ?_))
  have hp := places t
  unfold row
  blk_ext [hp]

/-- Both run; from equal arguments they end with equal results. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (dats m 0 c).arrAt 8 (cfgs 0).N, Cert.Kernel3Ideal.Value.run_blocks (F := Ideal) m g, ?_⟩
  refine (θ_run (Cert.Reference3Ideal.defs (F := Ideal)) _ _).mono (fun r h c => ?_)
    (Cert.Reference3Ideal.Value.run (F := Ideal) m' g')
  obtain ⟨hv, hrest⟩ := h c
  refine ⟨hv.trans ?_, hrest⟩
  obtain ⟨h0, h1, h2, h3, h4, h5, -⟩ := hargs c
  refine Eq.trans ?_ (final m c).symm
  rw [val_main_v31_eq, h0, h1, h2, h3, h4, h5]

end Cert.Proof.FfnFirst

end
-- ==== Proof.MlstmProj.lean ====
/-
  The fourth program: the last layer's row norm and its five projections (queries, keys, values, output gate, gate
  pre-activations). What the kernel leaves in each of its five result arrays is, entry by entry, what the reference computes.
-/
module

public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Claim

@[expose] public section

noncomputable section

namespace Cert.Proof.MlstmProj

open Idealize.ShloMosaic Idealize.ShloMosaic.TcCoe Idealize.SL.Sem Cert.Kernel4Ideal Cert.Kernel4Ideal.Gen
open Cert.Reference4Ideal.Read

variable (m : (ℓ : Loc nD τ sig) → Buf (Elt Ideal) ℓ)

/-- Where each window's block sits at grid point `t`. -/
theorem places : ∀ t : Fin cfg0.N,
    win0_0.index t = ![t.val / 16, t.val % 16, 0] ∧ win0_1.index t = ![0, 0] ∧ win0_2.index t = ![0, 0] ∧
    win0_3.index t = ![0, 0] ∧ win0_4.index t = ![0, 0] ∧ win0_5.index t = ![0, 0] ∧
    win0_6.index t = ![0, 0] ∧ win0_7.index t = ![0, 0] ∧ win0_8.index t = ![t.val / 16, 0, t.val % 16] ∧
    win0_9.index t = ![t.val / 16, t.val % 16, 0] ∧ win0_10.index t = ![t.val / 16, 0, t.val % 16] ∧
    win0_11.index t = ![t.val / 16, 0, t.val % 16] ∧ win0_12.index t = ![t.val / 16, 0, t.val % 16] :=
  (by decide +kernel : ∀ t : Fin grid0.N,
    win0_0.index t = ![t.val / 16, t.val % 16, 0] ∧ win0_1.index t = ![0, 0] ∧ win0_2.index t = ![0, 0] ∧
    win0_3.index t = ![0, 0] ∧ win0_4.index t = ![0, 0] ∧ win0_5.index t = ![0, 0] ∧
    win0_6.index t = ![0, 0] ∧ win0_7.index t = ![0, 0] ∧ win0_8.index t = ![t.val / 16, 0, t.val % 16] ∧
    win0_9.index t = ![t.val / 16, t.val % 16, 0] ∧ win0_10.index t = ![t.val / 16, 0, t.val % 16] ∧
    win0_11.index t = ![t.val / 16, 0, t.val % 16] ∧ win0_12.index t = ![t.val / 16, 0, t.val % 16])

/-- The sequence a grid point works on. -/
def sq (t : Fin cfg0.N) : Fin 2 := ⟨t.val / 16, by have h : t.val < 32 := t.isLt; omega⟩

/-- The position that row `r` of the block at point `t` is. -/
def pos (t : Fin cfg0.N) (r : Fin 512) : Fin 8192 :=
  ⟨t.val % 16 * 512 + r.val, by have := r.isLt; omega⟩

/-- The reference's normalised rows. -/
abbrev normed (c : Dev nD) := val_main_v13 (F := Ideal) (m ((c : Thread nD τ).loc main_arg0)) (m ((c : Thread nD τ).loc main_arg1))

/-- The reference's combined projection. -/
abbrev proj (c : Dev nD) := val_main_v15 (F := Ideal) (m ((c : Thread nD τ).loc main_arg0)) (m ((c : Thread nD τ).loc main_arg1)) (m ((c : Thread nD τ).loc main_arg2))

/-- The block's normalised rows are the reference's. -/
theorem normed_at (c : Dev nD) (t : Fin cfg0.N) (r : Fin 512) (x : Fin 1024) :
    k0_pay4 (F := Ideal) (iblk m c 0 t) (iblk m c 1 t) (ix2 r x) = normed m c (ix3 (sq t) (pos t r) x) := by
  have hp := places t
  have ht : t.val < 32 := t.isLt
  unfold normed
  pointwise [k0_pay4, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  unfold sq pos
  blk_point [iblk, V, hp]

/-- The reference's combined projection at a column. -/
theorem proj_at (c : Dev nD) (b : Fin 2) (s : Fin 8192) (e : Fin 3088) :
    proj m c (ix3 b s e) = ∑ x : Fin 1024, normed m c (ix3 b s x) * (m ((c : Thread nD τ).loc main_arg2)) (ix3 (0 : Fin 1) x e) := by
  unfold proj normed val_main_v15
  generalize val_main_v13 (F := Ideal) (m ((c : Thread nD τ).loc main_arg0)) (m ((c : Thread nD τ).loc main_arg1)) = H
  pointwise [val_main_v14]

theorem sum_swap (f g : Fin 1024 → EReal) : (∑ x, f x * g x) = ∑ x, g x * f x :=
  Finset.sum_congr rfl fun _ _ => mul_comm _ _

theorem wq_at (c : Dev nD) (t : Fin cfg0.N) (f : Fin 512) (x : Fin 1024) :
    iblk m c 2 t (ix2 f x) = (m ((c : Thread nD τ).loc main_arg2)) (ix3 (0 : Fin 1) x (⟨f.val, by omega⟩ : Fin 3088)) := by
  have hp := places t
  blk_point [iblk, V, hp]

theorem wk_at (c : Dev nD) (t : Fin cfg0.N) (f : Fin 512) (x : Fin 1024) :
    iblk m c 3 t (ix2 x f) = (m ((c : Thread nD τ).loc main_arg2)) (ix3 (0 : Fin 1) x (⟨512 + f.val, by omega⟩ : Fin 3088)) := by
  have hp := places t
  blk_point [iblk, V, hp]

theorem wv_at (c : Dev nD) (t : Fin cfg0.N) (f : Fin 1024) (x : Fin 1024) :
    iblk m c 4 t (ix2 f x) = (m ((c : Thread nD τ).loc main_arg2)) (ix3 (0 : Fin 1) x (⟨1024 + f.val, by omega⟩ : Fin 3088)) := by
  have hp := places t
  blk_point [iblk, V, hp]

theorem wo_at (c : Dev nD) (t : Fin cfg0.N) (f : Fin 1024) (x : Fin 1024) :
    iblk m c 5 t (ix2 f x) = (m ((c : Thread nD τ).loc main_arg2)) (ix3 (0 : Fin 1) x (⟨2048 + f.val, by omega⟩ : Fin 3088)) := by
  have hp := places t
  blk_point [iblk, V, hp]

theorem wg_at (c : Dev nD) (t : Fin cfg0.N) (f : Fin 16) (x : Fin 1024) :
    iblk m c 6 t (ix2 f x) = (m ((c : Thread nD τ).loc main_arg2)) (ix3 (0 : Fin 1) x (⟨3072 + f.val, by omega⟩ : Fin 3088)) := by
  have hp := places t
  blk_point [iblk, V, hp]

theorem bias_at (c : Dev nD) (t : Fin cfg0.N) (f : Fin 16) :
    iblk m c 7 t (ix2 f (0 : Fin 1)) = (m ((c : Thread nD τ).loc main_arg3)) (ix2 (0 : Fin 1) f) := by
  have hp := places t
  blk_point [iblk, V, hp]

theorem q_blk (c : Dev nD) (t : Fin cfg0.N) (f : Fin 512) (r : Fin 512) :
    k0_pay5 (F := Ideal) (iblk m c 0 t) (iblk m c 1 t) (iblk m c 2 t) (ix3 (0 : Fin 1) f r)
      = val_main_v39 (F := Ideal) (m ((c : Thread nD τ).loc main_arg0)) (m ((c : Thread nD τ).loc main_arg1)) (m ((c : Thread nD τ).loc main_arg2)) (ix3 (sq t) f (pos t r)) := by
  have hn := normed_at m c t r
  have hw := wq_at m c t f
  have hb := bias_at m c t
  unfold k0_pay5
  generalize k0_pay4 (F := Ideal) (iblk m c 0 t) (iblk m c 1 t) = H at hn ⊢
  unfold val_main_v39
  have hP := proj_at m c (sq t) (pos t r)
  unfold proj at hP
  pointwise [val_main_v38, val_main_v18, val_main_v17, val_main_cst_2, val_main_v16]
  simp only [hn, hw, hb, hP]
  rw [sum_swap]

theorem final_q (c : Dev nD) : (dats m 0 c).arrAt 8 (cfgs 0).N = val_main_v39 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  have hy : y = ix3 (0 : Fin 1) (y 1 : Fin 512) (y 2 : Fin 512) := by
    funext a
    match a with
    | ⟨0, _⟩ => exact Subsingleton.elim (α := Fin 1) _ _
    | ⟨1, _⟩ => rfl
    | ⟨2, _⟩ => rfl
  refine (congrArg _ hy).trans ((q_blk m c t (y 1) (y 2)).trans (congrArg _ ?_))
  have hp := places t
  unfold sq pos
  blk_ext [hp]

theorem k_blk (c : Dev nD) (t : Fin cfg0.N) (f : Fin 512) (r : Fin 512) :
    k0_pay6 (F := Ideal) (iblk m c 0 t) (iblk m c 1 t) (iblk m c 3 t) (ix3 (0 : Fin 1) r f)
      = val_main_v40 (F := Ideal) (m ((c : Thread nD τ).loc main_arg0)) (m ((c : Thread nD τ).loc main_arg1)) (m ((c : Thread nD τ).loc main_arg2)) (ix3 (sq t) (pos t r) f) := by
  have hn := normed_at m c t r
  have hw := wk_at m c t f
  have hb := bias_at m c t
  unfold k0_pay6
  generalize k0_pay4 (F := Ideal) (iblk m c 0 t) (iblk m c 1 t) = H at hn ⊢
  unfold val_main_v40
  have hP := proj_at m c (sq t) (pos t r)
  unfold proj at hP
  pointwise [val_main_v19]
  simp only [hn, hw, hb, hP]

theorem final_k (c : Dev nD) : (dats m 0 c).arrAt 9 (cfgs 0).N = val_main_v40 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  have hy : y = ix3 (0 : Fin 1) (y 1 : Fin 512) (y 2 : Fin 512) := by
    funext a
    match a with
    | ⟨0, _⟩ => exact Subsingleton.elim (α := Fin 1) _ _
    | ⟨1, _⟩ => rfl
    | ⟨2, _⟩ => rfl
  refine (congrArg _ hy).trans ((k_blk m c t (y 2) (y 1)).trans (congrArg _ ?_))
  have hp := places t
  unfold sq pos
  blk_ext [hp]

theorem v_blk (c : Dev nD) (t : Fin cfg0.N) (f : Fin 1024) (r : Fin 512) :
    k0_pay1 (F := Ideal) (k0_pay4 (iblk m c 0 t) (iblk m c 1 t)) (iblk m c 4 t) (ix3 (0 : Fin 1) f r)
      = val_main_v42 (F := Ideal) (m ((c : Thread nD τ).loc main_arg0)) (m ((c : Thread nD τ).loc main_arg1)) (m ((c : Thread nD τ).loc main_arg2)) (ix3 (sq t) f (pos t r)) := by
  have hn := normed_at m c t r
  have hw := wv_at m c t f
  have hb := bias_at m c t
  unfold k0_pay1
  generalize k0_pay4 (F := Ideal) (iblk m c 0 t) (iblk m c 1 t) = H at hn ⊢
  unfold val_main_v42
  have hP := proj_at m c (sq t) (pos t r)
  unfold proj at hP
  pointwise [val_main_v41, val_main_v20]
  simp only [hn, hw, hb, hP]
  rw [sum_swap]

theorem final_v (c : Dev nD) : (dats m 0 c).arrAt 10 (cfgs 0).N = val_main_v42 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  frame_out
  unfold k0_pay7
  frame_out
  have hy : y = ix3 (0 : Fin 1) (y 1 : Fin 1024) (y 2 : Fin 512) := by
    funext a
    match a with
    | ⟨0, _⟩ => exact Subsingleton.elim (α := Fin 1) _ _
    | ⟨1, _⟩ => rfl
    | ⟨2, _⟩ => rfl
  refine (congrArg _ hy).trans ((v_blk m c t (y 1) (y 2)).trans (congrArg _ ?_))
  have hp := places t
  unfold sq pos
  blk_ext [hp]

theorem o_blk (c : Dev nD) (t : Fin cfg0.N) (f : Fin 1024) (r : Fin 512) :
    k0_pay2 (F := Ideal) (k0_pay4 (iblk m c 0 t) (iblk m c 1 t)) (iblk m c 5 t) (ix3 (0 : Fin 1) f r)
      = val_main_v44 (F := Ideal) (m ((c : Thread nD τ).loc main_arg0)) (m ((c : Thread nD τ).loc main_arg1)) (m ((c : Thread nD τ).loc main_arg2)) (ix3 (sq t) f (pos t r)) := by
  have hn := normed_at m c t r
  have hw := wo_at m c t f
  have hb := bias_at m c t
  unfold k0_pay2
  generalize k0_pay4 (F := Ideal) (iblk m c 0 t) (iblk m c 1 t) = H at hn ⊢
  unfold val_main_v44
  have hP := proj_at m c (sq t) (pos t r)
  unfold proj at hP
  pointwise [val_main_v43, val_main_v27, val_main_v26, val_main_cst_4, val_main_v25, val_main_v24, val_main_cst_3, val_main_v23, val_main_v22, val_main_v21]
  simp only [hn, hw, hb, hP]
  rw [sum_swap]
  simp only [Ideal.logistic]

theorem final_o (c : Dev nD) : (dats m 0 c).arrAt 11 (cfgs 0).N = val_main_v44 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  frame_out
  unfold k0_pay7
  frame_out
  have hy : y = ix3 (0 : Fin 1) (y 1 : Fin 1024) (y 2 : Fin 512) := by
    funext a
    match a with
    | ⟨0, _⟩ => exact Subsingleton.elim (α := Fin 1) _ _
    | ⟨1, _⟩ => rfl
    | ⟨2, _⟩ => rfl
  refine (congrArg _ hy).trans ((o_blk m c t (y 1) (y 2)).trans (congrArg _ ?_))
  have hp := places t
  unfold sq pos
  blk_ext [hp]

theorem g_blk (c : Dev nD) (t : Fin cfg0.N) (f : Fin 16) (r : Fin 512) :
    k0_pay3 (F := Ideal) (k0_pay4 (iblk m c 0 t) (iblk m c 1 t)) (iblk m c 6 t) (iblk m c 7 t) (ix3 (0 : Fin 1) f r)
      = val_main_v45 (F := Ideal) (m ((c : Thread nD τ).loc main_arg0)) (m ((c : Thread nD τ).loc main_arg1)) (m ((c : Thread nD τ).loc main_arg2)) (m ((c : Thread nD τ).loc main_arg3)) (ix3 (sq t) f (pos t r)) := by
  have hn := normed_at m c t r
  have hw := wg_at m c t f
  have hb := bias_at m c t
  unfold k0_pay3
  generalize k0_pay4 (F := Ideal) (iblk m c 0 t) (iblk m c 1 t) = H at hn ⊢
  unfold val_main_v45
  have hP := proj_at m c (sq t) (pos t r)
  unfold proj at hP
  pointwise [val_main_v37, val_main_v36, val_main_cst_6, val_main_v35, val_main_v34, val_main_v33, val_main_cst_5, val_main_v32, val_main_v31, val_main_v30, val_main_v29, val_main_v28]
  simp only [hn, hw, hb, hP]
  rw [sum_swap]

theorem final_g (c : Dev nD) : (dats m 0 c).arrAt 12 (cfgs 0).N = val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  unfold k0_pay7
  frame_out
  have hy : y = ix3 (0 : Fin 1) (y 1 : Fin 16) (y 2 : Fin 512) := by
    funext a
    match a with
    | ⟨0, _⟩ => exact Subsingleton.elim (α := Fin 1) _ _
    | ⟨1, _⟩ => rfl
    | ⟨2, _⟩ => rfl
  refine (congrArg _ hy).trans ((g_blk m c t (y 1) (y 2)).trans (congrArg _ ?_))
  have hp := places t
  unfold sq pos
  blk_ext [hp]

/-- Both run; from equal arguments they end with equal results. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (dats m 0 c).arrAt 8 (cfgs 0).N, fun c => (dats m 0 c).arrAt 9 (cfgs 0).N,
    fun c => (dats m 0 c).arrAt 10 (cfgs 0).N, fun c => (dats m 0 c).arrAt 11 (cfgs 0).N,
    fun c => (dats m 0 c).arrAt 12 (cfgs 0).N, Cert.Kernel4Ideal.Value.run_blocks (F := Ideal) m g, ?_⟩
  refine (θ_run (Cert.Reference4Ideal.defs (F := Ideal)) _ _).mono (fun r h c => ?_)
    (Cert.Reference4Ideal.Value.run (F := Ideal) m' g')
  obtain ⟨hq, hk, hv, ho, hg, hrest⟩ := h c
  obtain ⟨h0, h1, h2, h3⟩ := hargs c
  refine ⟨hq.trans ?_, hk.trans ?_, hv.trans ?_, ho.trans ?_, hg.trans ?_, hrest⟩
  · refine Eq.trans ?_ (final_q m c).symm
    rw [← h0, ← h1, ← h2, val_main_v39_eq]
  · refine Eq.trans ?_ (final_k m c).symm
    rw [← h0, ← h1, ← h2, val_main_v40_eq]
  · refine Eq.trans ?_ (final_v m c).symm
    rw [← h0, ← h1, ← h2, val_main_v42_eq]
  · refine Eq.trans ?_ (final_o m c).symm
    rw [← h0, ← h1, ← h2, val_main_v44_eq]
  · refine Eq.trans ?_ (final_g m c).symm
    rw [← h0, ← h1, ← h2, ← h3, val_main_v45_eq]

end Cert.Proof.MlstmProj

end
-- ==== Proof.AttnTables.lean ====
/-
  The fifth program, first part: the arrays the attention projection is handed. The weights are the columns of the layer's
  projection weight, and the five rotary tables are the reference's cosines and sines, spread over the lanes.
-/
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Claim
public import Idealize.ShloMosaic.Lib.StableHlo.ReadAt

@[expose] public section

noncomputable section

namespace Cert.Proof.AttnProj

open Idealize.ShloMosaic Idealize.ShloMosaic.TcCoe Idealize.SL.Sem Cert.Kernel5Ideal Cert.Kernel5Ideal.Gen
open Cert.Reference5Ideal.Read

variable (m : (ℓ : Loc nD τ sig) → Buf (Elt Ideal) ℓ)

/-- The reference's cosine at a position and a frequency. -/
abbrev cosT (p : Fin 8192) (j : Fin 8) : EReal := val_main_v16 (F := Ideal) (ix2 p j)

/-- The reference's sine at a position and a frequency. -/
abbrev sinT (p : Fin 8192) (j : Fin 8) : EReal := val_main_v17 (F := Ideal) (ix2 p j)

theorem sel_word {P : Prop} [Decidable P] (b : BitVec 1) (x y : EReal) (h : b = (if P then 1#1 else 0#1)) :
    Scalar.select b x y = if P then x else y := by
  subst h
  by_cases hP : P <;> simp [hP, Scalar.select]

/-- The record of the columns' selection. -/
abbrev GD := gather_S8192x8_S128x1_S8192x128_0_1_n_n_1_1_81921

/-- Columns of a table picked by an index word per column: the table at that column. -/
theorem pick_cols {α : Type} (x : S8192x8.Idx → α) (idx : IVec S128x1 32) (p : Fin 8192) (l : Fin 128) (j : Fin 8)
    (hj : (idx (ix2 l (0 : Fin 1))).toInt.toNat = j.val) :
    Host.gather gather_S8192x8_S128x1_S8192x128_0_1_n_n_1_1_81921 x idx (ix2 p l) = x (ix2 p j) := by
  unfold Host.gather
  refine congrArg x ?_
  funext a
  refine Fin.ext ?_
  match a with
  | ⟨0, _⟩ =>
    show GatherDims.start GD (ix2 p l) idx 0 + GatherDims.batchCoord GD (ix2 p l) 0 + GatherDims.offCoord GD (ix2 p l) 0 = p.val
    rw [GatherDims.batchCoord_eq_zero _ _ _ List.not_mem_nil]
    unfold GatherDims.start
    rw [dif_neg (by decide)]
    simp only [Nat.zero_add, Nat.add_zero]
    rfl
  | ⟨1, _⟩ =>
    show GatherDims.start GD (ix2 p l) idx 1 + GatherDims.batchCoord GD (ix2 p l) 1 + GatherDims.offCoord GD (ix2 p l) 1 = j.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GD.startIndexMap from List.mem_singleton.mpr rfl)]
    have hsi : GD.siIdx (ix2 p l) ⟨List.idxOf (1 : Fin 2) GD.startIndexMap,
        List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    show min (idx (ix2 l (0 : Fin 1))).toInt.toNat 7 = j.val
    omega

theorem cost_entry (c : Dev nD) (j : Fin 8) (p : Fin 8192) : V m c main_v49 (ix2 j p) = cosT p j := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  unfold cosT
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]

theorem sint_entry (c : Dev nD) (j : Fin 8) (p : Fin 8192) : V m c main_v50 (ix2 j p) = sinT p j := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  unfold sinT
  pointwise [val_main_v17, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]

theorem cn_entry (c : Dev nD) (p : Fin 8192) (l : Fin 128) :
    V m c main_v38 (ix2 p l) = if l.val % 64 < 16 then cosT p (⟨l.val % 8, by omega⟩ : Fin 8) else 1 := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  clean_types
  pointwise
  erw [pick_cols _ _ p l ⟨l.val % 8, by omega⟩ (by revert l; decide +kernel)]
  unfold cosT
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  refine sel_word _ _ _ ?_
  revert l
  decide +kernel

theorem sa_entry (c : Dev nD) (p : Fin 8192) (l : Fin 128) :
    V m c main_v42 (ix2 p l) = if l.val % 64 < 8 then -sinT p (⟨l.val % 8, by omega⟩ : Fin 8) else 0 := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  clean_types
  pointwise
  erw [pick_cols _ _ p l ⟨l.val % 8, by omega⟩ (by revert l; decide +kernel)]
  unfold sinT
  pointwise [val_main_v17, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  refine sel_word _ _ _ ?_
  revert l
  decide +kernel

theorem sb_entry (c : Dev nD) (p : Fin 8192) (l : Fin 128) :
    V m c main_v48 (ix2 p l) = if 8 ≤ l.val % 64 ∧ l.val % 64 < 16 then sinT p (⟨l.val % 8, by omega⟩ : Fin 8) else 0 := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  clean_types
  pointwise
  erw [pick_cols _ _ p l ⟨l.val % 8, by omega⟩ (by revert l; decide +kernel)]
  unfold sinT
  pointwise [val_main_v17, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  refine sel_word _ _ _ ?_
  revert l
  decide +kernel

theorem wq_entry (c : Dev nD) (f x : Fin 1024) :
    V m c main_v56 (ix2 f x) = m ((c : Thread nD τ).loc main_arg2) (ix3 (0 : Fin 1) x (⟨0 + f.val, by omega⟩ : Fin 3072)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  pointwise

theorem wk_entry (c : Dev nD) (f x : Fin 1024) :
    V m c main_v57 (ix2 x f) = m ((c : Thread nD τ).loc main_arg2) (ix3 (0 : Fin 1) x (⟨1024 + f.val, by omega⟩ : Fin 3072)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  pointwise

theorem wv_entry (c : Dev nD) (f x : Fin 1024) :
    V m c main_v59 (ix2 f x) = m ((c : Thread nD τ).loc main_arg2) (ix3 (0 : Fin 1) x (⟨2048 + f.val, by omega⟩ : Fin 3072)) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  pointwise

theorem norm_entry (c : Dev nD) (x : Fin 1024) :
    V m c main_v54 (ix2 (0 : Fin 1) x) = m ((c : Thread nD τ).loc main_arg1) (ix2 (0 : Fin 1) x) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  pointwise

end Cert.Proof.AttnProj

end
-- ==== Proof.AttnRef.lean ====
/-
  The fifth program, second part: what the reference returns, entry by entry: the rotated and scaled queries, the rotated
  keys, the values and the key means, over its one combined projection.
-/
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Claim
public import proofs.«01_k».proof.Proof.AttnTables

@[expose] public section

noncomputable section

namespace Cert.Proof.AttnProj

open Idealize.ShloMosaic Idealize.ShloMosaic.TcCoe Idealize.SL.Sem Cert.Kernel5Ideal Cert.Kernel5Ideal.Gen
open Cert.Reference5Ideal.Read

variable (m : (ℓ : Loc nD τ sig) → Buf (Elt Ideal) ℓ)

/-- A row of keys or queries with the first sixteen dimensions of every head rotated: `P` the row, `C` and `S` the position's
    cosines and sines. -/
def rot (P : Fin 1024 → EReal) (C S : Fin 8 → EReal) (e : Fin 1024) : EReal :=
  if h : e.val % 64 < 8 then P e * C ⟨e.val % 8, by omega⟩ - P ⟨e.val + 8, by omega⟩ * S ⟨e.val % 8, by omega⟩
  else if h' : e.val % 64 < 16 then P e * C ⟨e.val % 8, by omega⟩ + P ⟨e.val - 8, by omega⟩ * S ⟨e.val % 8, by omega⟩
  else P e

theorem rot_lo (P : Fin 1024 → EReal) (C S : Fin 8 → EReal) (e : Fin 1024) (h : e.val % 64 < 8) :
    rot P C S e = P e * C ⟨e.val % 8, by omega⟩ - P ⟨e.val + 8, by omega⟩ * S ⟨e.val % 8, by omega⟩ := dif_pos h

theorem rot_mid (P : Fin 1024 → EReal) (C S : Fin 8 → EReal) (e : Fin 1024) (h : ¬ e.val % 64 < 8) (h' : e.val % 64 < 16) :
    rot P C S e = P e * C ⟨e.val % 8, by omega⟩ + P ⟨e.val - 8, by omega⟩ * S ⟨e.val % 8, by omega⟩ :=
  (dif_neg h).trans (dif_pos h')

theorem rot_hi (P : Fin 1024 → EReal) (C S : Fin 8 → EReal) (e : Fin 1024) (h : ¬ e.val % 64 < 8) (h' : ¬ e.val % 64 < 16) :
    rot P C S e = P e := (dif_neg h).trans (dif_neg h')

variable (x0 : (⟨Cert.Reference5Ideal.S2x8192x1024, .f32⟩ : BufTy).Contents (Elt Ideal))
  (x1 : (⟨Cert.Reference5Ideal.S1x1024, .f32⟩ : BufTy).Contents (Elt Ideal))
  (x2 : (⟨Cert.Reference5Ideal.S1x1024x3072, .f32⟩ : BufTy).Contents (Elt Ideal))

/-- The reference's rotated keys. -/
theorem ref_k (b : Fin 2) (h : Fin 16) (s : Fin 8192) (d : Fin 64) (e : Fin 1024) (he : e.val = h.val * 64 + d.val) :
    val_main_v77 (F := Ideal) x0 x1 x2 (ix4 b h s d)
      = rot (fun f => val_main_v33 (F := Ideal) x0 x1 x2 (ix3 b s (⟨1024 + f.val, by omega⟩ : Fin 3072))) (cosT s) (sinT s) e := by
  unfold val_main_v77 val_main_v69 val_main_v76 val_main_v62 val_main_v65 val_main_v68 val_main_v72 val_main_v75 val_main_v60 val_main_v61 val_main_v64 val_main_v67 val_main_v71 val_main_v74 val_main_v63 val_main_v66 val_main_v70 val_main_v73 val_main_v59 val_main_v58 val_main_v35 val_main_v34 cosT sinT
  generalize val_main_v33 (F := Ideal) x0 x1 x2 = P
  generalize val_main_v16 (F := Ideal) = C
  generalize val_main_v17 (F := Ideal) = S
  pointwise
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

/-- The reference's rotated queries. -/
theorem ref_q (b : Fin 2) (h : Fin 16) (s : Fin 8192) (d : Fin 64) (e : Fin 1024) (he : e.val = h.val * 64 + d.val) :
    val_main_v55 (F := Ideal) x0 x1 x2 (ix4 b h s d)
      = rot (fun f => val_main_v33 (F := Ideal) x0 x1 x2 (ix3 b s (⟨0 + f.val, by omega⟩ : Fin 3072))) (cosT s) (sinT s) e := by
  unfold val_main_v55 val_main_v47 val_main_v54 val_main_v40 val_main_v43 val_main_v46 val_main_v50 val_main_v53 val_main_v38 val_main_v39 val_main_v42 val_main_v45 val_main_v49 val_main_v52 val_main_v41 val_main_v44 val_main_v48 val_main_v51 val_main_v37 val_main_v36 val_main_v35 val_main_v34 cosT sinT
  generalize val_main_v33 (F := Ideal) x0 x1 x2 = P
  generalize val_main_v16 (F := Ideal) = C
  generalize val_main_v17 (F := Ideal) = S
  pointwise
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

/-- The queries as the reference returns them. -/
theorem res_q (b : Fin 2) (f : Fin 1024) (s : Fin 8192) :
    val_main_v87 (F := Ideal) x0 x1 x2 (ix3 b f s)
      = rot (fun f => val_main_v33 (F := Ideal) x0 x1 x2 (ix3 b s (⟨0 + f.val, by omega⟩ : Fin 3072))) (cosT s) (sinT s) f
        * Ideal.ofBits .f32 0x3E38AA3B#32 := by
  have hq := ref_q x0 x1 x2 b ⟨f.val / 64, by omega⟩ s ⟨f.val % 64, by omega⟩ f
    (by show f.val = f.val / 64 * 64 + f.val % 64; omega)
  rw [← hq]
  unfold val_main_v87 val_main_v86 val_main_v85 val_main_v57 val_main_v56 val_main_cst_6
  generalize val_main_v55 (F := Ideal) x0 x1 x2 = Q
  pointwise

/-- The keys, one row per position, are the heads' keys side by side. -/
theorem flat_k (b : Fin 2) (s : Fin 8192) (f : Fin 1024) (h : Fin 16) (d : Fin 64) (hf : f.val = h.val * 64 + d.val) :
    val_main_v90 (F := Ideal) x0 x1 x2 (ix3 b s f) = val_main_v77 (F := Ideal) x0 x1 x2 (ix4 b h s d) := by
  rw [val_main_v90_apply, val_main_v89_apply, val_main_v88_apply]
  generalize val_main_v77 (F := Ideal) x0 x1 x2 = Q
  refine congrArg Q (funext fun a => Fin.ext ?_)
  match a with
  | ⟨0, _⟩ => show ((b.val * 8192 + s.val) * 1024 + f.val) / 8388608 = b.val; omega
  | ⟨1, _⟩ => show ((b.val * 8192 + s.val) * 1024 + f.val) / 64 % 16 = h.val; omega
  | ⟨2, _⟩ => show ((b.val * 8192 + s.val) * 1024 + f.val) / 1024 % 8192 = s.val; omega
  | ⟨3, _⟩ => show ((b.val * 8192 + s.val) * 1024 + f.val) % 64 = d.val; omega

/-- The keys as the reference returns them. -/
theorem res_k (b : Fin 2) (s : Fin 8192) (f : Fin 1024) :
    val_main_v90 (F := Ideal) x0 x1 x2 (ix3 b s f)
      = rot (fun f => val_main_v33 (F := Ideal) x0 x1 x2 (ix3 b s (⟨1024 + f.val, by omega⟩ : Fin 3072))) (cosT s) (sinT s) f := by
  have hf : f.val = f.val / 64 * 64 + f.val % 64 := by omega
  rw [flat_k x0 x1 x2 b s f ⟨f.val / 64, by omega⟩ ⟨f.val % 64, by omega⟩ hf]
  exact ref_k x0 x1 x2 b ⟨f.val / 64, by omega⟩ s ⟨f.val % 64, by omega⟩ f hf

/-- The values as the reference returns them. -/
theorem res_v (b : Fin 2) (n : Fin 32) (f : Fin 1024) (r : Fin 256) (s : Fin 8192) (hs : s.val = n.val * 256 + r.val) :
    val_main_v93 (F := Ideal) x0 x1 x2 (ix4 b n f r)
      = val_main_v33 (F := Ideal) x0 x1 x2 (ix3 b s (⟨2048 + f.val, by omega⟩ : Fin 3072)) := by
  unfold val_main_v93 val_main_v92 val_main_v91 val_main_v84 val_main_v79 val_main_v78 val_main_v35 val_main_v34
  generalize val_main_v33 (F := Ideal) x0 x1 x2 = P
  pointwise
  blk_ext [hs]

/-- The key means as the reference returns them. -/
theorem res_m (b : Fin 2) (i : Fin 16) (j : Fin 2) (f : Fin 1024) :
    val_main_v95 (F := Ideal) x0 x1 x2 (ix4 b i j f)
      = Ideal.div (∑ r : Fin 256, val_main_v90 (F := Ideal) x0 x1 x2
          (ix3 b (⟨i.val * 512 + (j.val * 256 + r.val), by omega⟩ : Fin 8192) f)) (Ideal.ofBits .f32 0x43800000#32) := by
  have hk : ∀ r : Fin 256, val_main_v90 (F := Ideal) x0 x1 x2
      (ix3 b (⟨i.val * 512 + (j.val * 256 + r.val), by omega⟩ : Fin 8192) f)
      = val_main_v77 (F := Ideal) x0 x1 x2 (ix4 b (⟨f.val / 64, by omega⟩ : Fin 16)
        (⟨i.val * 512 + (j.val * 256 + r.val), by omega⟩ : Fin 8192) (⟨f.val % 64, by omega⟩ : Fin 64)) := fun r =>
    flat_k x0 x1 x2 b _ f ⟨f.val / 64, by omega⟩ ⟨f.val % 64, by omega⟩ (by show f.val = f.val / 64 * 64 + f.val % 64; omega)
  rw [Finset.sum_congr rfl fun r _ => hk r]
  clear hk
  rw [val_main_v95_apply, val_main_v94_apply, val_main_v83_apply]
  unfold val_main_v81 val_main_v80 val_main_v82 val_main_cst_8 val_main_cst_7
  generalize val_main_v77 (F := Ideal) x0 x1 x2 = Q
  have e : idx_main_v94 (idx_main_v95 (ix4 b i j f)) = ix4 b (⟨f.val / 64, by omega⟩ : Fin 16)
      (⟨i.val * 2 + j.val, by omega⟩ : Fin 32) (⟨f.val % 64, by omega⟩ : Fin 64) := by
    refine funext fun a => Fin.ext ?_
    match a with
    | ⟨0, _⟩ => show (((b.val * 16 + i.val) * 2 + j.val) * 1024 + f.val) / 32768 = b.val; omega
    | ⟨1, _⟩ => show (((b.val * 16 + i.val) * 2 + j.val) * 1024 + f.val) / 64 % 16 = f.val / 64; omega
    | ⟨2, _⟩ => show (((b.val * 16 + i.val) * 2 + j.val) * 1024 + f.val) / 1024 % 32 = i.val * 2 + j.val; omega
    | ⟨3, _⟩ => show (((b.val * 16 + i.val) * 2 + j.val) * 1024 + f.val) % 64 = f.val % 64; omega
  rw [e]
  pointwise
  refine congrArg (fun z => Ideal.div z _) (Finset.sum_congr rfl fun r _ => ?_)
  refine congrArg (fun z : Fin 8192 => Q (ix4 b _ z _)) (Fin.ext ?_)
  show (i.val * 2 + j.val) * 256 + r.val = i.val * 512 + (j.val * 256 + r.val)
  omega

end Cert.Proof.AttnProj

end
-- ==== Proof.AttnRows.lean ====
/-
  The fifth program, fourth part: the keys' pieces. Each of the eight lane groups stores its rotated keys and the mean of the
  upper and of the lower 256 rows of them; a lane's rotation reads the lanes eight to its right and eight to its left.
-/
module

public import proofs.«01_k».proof.Proof.AttnRef
public import Idealize.ShloMosaic.Lib.Pointwise
public import Idealize.ShloMosaic.Lib.Pipeline.ValueKit

@[expose] public section

noncomputable section

namespace Cert.Proof.AttnProj

open Idealize.ShloMosaic Idealize.ShloMosaic.TcCoe Idealize.SL.Sem Cert.Kernel5Ideal Cert.Kernel5Ideal.Gen
open Cert.Reference5Ideal.Read

/-- A key of the block after rotation, as the kernel forms it from the product and the three table blocks. -/
def kr (K : FVec Ideal S512x1024 .f32) (CN SA SB : FVec Ideal S512x128 .f32) (r : Fin 512) (f : Fin 1024) : EReal :=
  K (ix2 r f) * CN (ix2 r (⟨f.val % 128, by omega⟩ : Fin 128))
    + K (ix2 r (⟨f.val / 128 * 128 + (f.val % 128 + 8) % 128, by omega⟩ : Fin 1024)) * SA (ix2 r (⟨f.val % 128, by omega⟩ : Fin 128))
    + K (ix2 r (⟨f.val / 128 * 128 + (f.val % 128 + 120) % 128, by omega⟩ : Fin 1024)) * SB (ix2 r (⟨f.val % 128, by omega⟩ : Fin 128))

/-- The kernel's rotation is the reference's. -/
theorem kr_rot (K : FVec Ideal S512x1024 .f32) (CN SA SB : FVec Ideal S512x128 .f32) (r : Fin 512) (P : Fin 1024 → EReal) (C S : Fin 8 → EReal)
    (hK : ∀ f : Fin 1024, K (ix2 r f) = P f)
    (hC : ∀ l : Fin 128, CN (ix2 r l) = if l.val % 64 < 16 then C ⟨l.val % 8, by omega⟩ else 1)
    (hA : ∀ l : Fin 128, SA (ix2 r l) = if l.val % 64 < 8 then -S ⟨l.val % 8, by omega⟩ else 0)
    (hB : ∀ l : Fin 128, SB (ix2 r l) = if 8 ≤ l.val % 64 ∧ l.val % 64 < 16 then S ⟨l.val % 8, by omega⟩ else 0)
    (f : Fin 1024) : kr K CN SA SB r f = rot P C S f := by
  unfold kr
  rw [hK, hK, hK, hC, hA, hB]
  have e8 : (⟨f.val % 128 % 8, by omega⟩ : Fin 8) = ⟨f.val % 8, by omega⟩ := Fin.ext (by show f.val % 128 % 8 = f.val % 8; omega)
  have e64 : f.val % 128 % 64 = f.val % 64 := by omega
  simp only [e8, e64]
  by_cases c1 : f.val % 64 < 8
  · have c2 : f.val % 64 < 16 := by omega
    have c3 : ¬ (8 ≤ f.val % 64 ∧ f.val % 64 < 16) := by omega
    have e : (⟨f.val / 128 * 128 + (f.val % 128 + 8) % 128, by omega⟩ : Fin 1024) = ⟨f.val + 8, by omega⟩ :=
      Fin.ext (by show f.val / 128 * 128 + (f.val % 128 + 8) % 128 = f.val + 8; omega)
    rw [if_pos c2, if_pos c1, if_neg c3, rot_lo _ _ _ f c1, e, mul_zero, add_zero, mul_neg, sub_eq_add_neg]
  · by_cases c2 : f.val % 64 < 16
    · have c3 : 8 ≤ f.val % 64 ∧ f.val % 64 < 16 := by omega
      have e : (⟨f.val / 128 * 128 + (f.val % 128 + 120) % 128, by omega⟩ : Fin 1024) = ⟨f.val - 8, by omega⟩ :=
        Fin.ext (by show f.val / 128 * 128 + (f.val % 128 + 120) % 128 = f.val - 8; omega)
      rw [if_pos c2, if_neg c1, if_pos c3, rot_mid _ _ _ f c1 c2, e, mul_zero, add_zero]
    · have c3 : ¬ (8 ≤ f.val % 64 ∧ f.val % 64 < 16) := by omega
      rw [if_neg c2, if_neg c1, if_neg c3, rot_hi _ _ _ f c1 c2, mul_zero, mul_zero, mul_one, add_zero, add_zero]

theorem k_piece0 (x0 : Vec Ideal S1x512x1024 .f32) (x1 : Vec Ideal S1x1024 .f32) (x3 : Vec Ideal S1024x1024 .bf16) (x5 x6 x7 : Vec Ideal S512x128 .f32) (r : Fin 512) (l : Fin 128) :
    k0_pay12 (k0_pay11 x0 x1 x3 x5 x6 x7) (ix3 (0 : Fin 1) r l) = kr (k0_pay6 x0 x1 x3) (k0_pay7 x5) (k0_pay8 x6) (k0_pay9 x7) r ⟨0 + l.val, by omega⟩ := by
  unfold k0_pay12 k0_pay11 k0_pay10
  generalize k0_pay6 (F := Ideal) x0 x1 x3 = K
  generalize k0_pay7 (F := Ideal) x5 = CN
  generalize k0_pay8 (F := Ideal) x6 = SA
  generalize k0_pay9 (F := Ideal) x7 = SB
  pointwise
  unfold kr
  blk_point []

theorem k_piece1 (K : FVec Ideal S512x1024 .f32) (CN SA SB : FVec Ideal S512x128 .f32) (r : Fin 512) (l : Fin 128) :
    k0_pay16 K CN SA SB (ix3 (0 : Fin 1) r l) = kr K CN SA SB r ⟨128 + l.val, by omega⟩ := by
  unfold k0_pay16 k0_pay15
  pointwise
  unfold kr
  blk_point []

theorem k_piece2 (K : FVec Ideal S512x1024 .f32) (CN SA SB : FVec Ideal S512x128 .f32) (r : Fin 512) (l : Fin 128) :
    k0_pay21 K CN SA SB (ix3 (0 : Fin 1) r l) = kr K CN SA SB r ⟨256 + l.val, by omega⟩ := by
  unfold k0_pay21 k0_pay20
  pointwise
  unfold kr
  blk_point []

theorem k_piece3 (K : FVec Ideal S512x1024 .f32) (CN SA SB : FVec Ideal S512x128 .f32) (r : Fin 512) (l : Fin 128) :
    k0_pay27 K CN SA SB (ix3 (0 : Fin 1) r l) = kr K CN SA SB r ⟨384 + l.val, by omega⟩ := by
  unfold k0_pay27 k0_pay26
  pointwise
  unfold kr
  blk_point []

theorem k_piece4 (K : FVec Ideal S512x1024 .f32) (CN SA SB : FVec Ideal S512x128 .f32) (r : Fin 512) (l : Fin 128) :
    k0_pay33 SA SB (k0_pay30 K) (k0_pay31 K CN) 120#32 (ix3 (0 : Fin 1) r l) = kr K CN SA SB r ⟨512 + l.val, by omega⟩ := by
  unfold k0_pay33 k0_pay32 k0_pay31 k0_pay30
  pointwise
  unfold kr
  blk_point []

theorem k_piece5 (K : FVec Ideal S512x1024 .f32) (CN SA SB : FVec Ideal S512x128 .f32) (r : Fin 512) (l : Fin 128) :
    k0_pay38 (k0_pay37 K CN SA SB) (ix3 (0 : Fin 1) r l) = kr K CN SA SB r ⟨640 + l.val, by omega⟩ := by
  unfold k0_pay38 k0_pay37 k0_pay36
  pointwise
  unfold kr
  blk_point []

theorem k_piece6 (K : FVec Ideal S512x1024 .f32) (CN SA SB : FVec Ideal S512x128 .f32) (r : Fin 512) (l : Fin 128) :
    k0_pay42 K CN SA SB (ix3 (0 : Fin 1) r l) = kr K CN SA SB r ⟨768 + l.val, by omega⟩ := by
  unfold k0_pay42 k0_pay41
  pointwise
  unfold kr
  blk_point []

theorem k_piece7 (K : FVec Ideal S512x1024 .f32) (CN SA SB : FVec Ideal S512x128 .f32) (r : Fin 512) (l : Fin 128) :
    k0_pay47 K CN SA SB (ix3 (0 : Fin 1) r l) = kr K CN SA SB r ⟨896 + l.val, by omega⟩ := by
  unfold k0_pay47 k0_pay46
  pointwise
  unfold kr
  blk_point []

end Cert.Proof.AttnProj

end
-- ==== Proof.AttnBlocks.lean ====
/-
  The fifth program, third part: a grid point's blocks. Its rows are the positions `512 * (t % 16) + r` of sequence `t / 16`, the
  normalised rows and the three products are the reference's, and the table blocks are the reference's cosines and sines.
-/
module

public import proofs.«01_k».proof.Proof.AttnRef
public import Idealize.ShloMosaic.Lib.Pointwise
public import Idealize.ShloMosaic.Lib.Pipeline.ValueKit

@[expose] public section

noncomputable section

namespace Cert.Proof.AttnProj

open Idealize.ShloMosaic Idealize.ShloMosaic.TcCoe Idealize.SL.Sem Cert.Kernel5Ideal Cert.Kernel5Ideal.Gen
open Cert.Reference5Ideal.Read

variable (m : (ℓ : Loc nD τ sig) → Buf (Elt Ideal) ℓ)

/-- Where each window's block sits at grid point `t`. -/
theorem places : ∀ t : Fin cfg0.N,
    win0_0.index t = ![t.val / 16, t.val % 16, 0] ∧
    win0_1.index t = ![0, 0] ∧
    win0_2.index t = ![0, 0] ∧
    win0_3.index t = ![0, 0] ∧
    win0_4.index t = ![0, 0] ∧
    win0_5.index t = ![t.val % 16, 0] ∧
    win0_6.index t = ![t.val % 16, 0] ∧
    win0_7.index t = ![t.val % 16, 0] ∧
    win0_8.index t = ![0, t.val % 16] ∧
    win0_9.index t = ![0, t.val % 16] ∧
    win0_10.index t = ![t.val / 16, 0, t.val % 16] ∧
    win0_11.index t = ![t.val / 16, t.val % 16, 0] ∧
    win0_12.index t = ![t.val / 16, t.val % 16, 0, 0] ∧
    win0_13.index t = ![t.val / 16, t.val % 16, 0, 0] :=
  (by decide +kernel : ∀ t : Fin grid0.N,
    win0_0.index t = ![t.val / 16, t.val % 16, 0] ∧
    win0_1.index t = ![0, 0] ∧
    win0_2.index t = ![0, 0] ∧
    win0_3.index t = ![0, 0] ∧
    win0_4.index t = ![0, 0] ∧
    win0_5.index t = ![t.val % 16, 0] ∧
    win0_6.index t = ![t.val % 16, 0] ∧
    win0_7.index t = ![t.val % 16, 0] ∧
    win0_8.index t = ![0, t.val % 16] ∧
    win0_9.index t = ![0, t.val % 16] ∧
    win0_10.index t = ![t.val / 16, 0, t.val % 16] ∧
    win0_11.index t = ![t.val / 16, t.val % 16, 0] ∧
    win0_12.index t = ![t.val / 16, t.val % 16, 0, 0] ∧
    win0_13.index t = ![t.val / 16, t.val % 16, 0, 0])

/-- The sequence a grid point works on. -/
def sq (t : Fin cfg0.N) : Fin 2 := ⟨t.val / 16, by have h : t.val < 32 := t.isLt; omega⟩

/-- The position that row `r` of the block at point `t` is. -/
def pos (t : Fin cfg0.N) (r : Fin 512) : Fin 8192 :=
  ⟨t.val % 16 * 512 + r.val, by have := r.isLt; omega⟩

/-- The reference's normalised rows. -/
abbrev normed (c : Dev nD) := val_main_v31 (F := Ideal) (m ((c : Thread nD τ).loc main_arg0)) (m ((c : Thread nD τ).loc main_arg1))

/-- The reference's combined projection. -/
abbrev proj (c : Dev nD) := val_main_v33 (F := Ideal) (m ((c : Thread nD τ).loc main_arg0)) (m ((c : Thread nD τ).loc main_arg1)) (m ((c : Thread nD τ).loc main_arg2))

theorem norm_at (c : Dev nD) (t : Fin cfg0.N) (x : Fin 1024) :
    iblk m c 1 t (ix2 (0 : Fin 1) x) = m ((c : Thread nD τ).loc main_arg1) (ix2 (0 : Fin 1) x) := by
  have hp := places t
  refine Eq.trans ?_ (norm_entry m c x)
  unfold iblk
  refine congrArg (V m c main_v54) ?_
  blk_ext [hp]

/-- The block's normalised rows are the reference's. -/
theorem normed_at (c : Dev nD) (t : Fin cfg0.N) (r : Fin 512) (x : Fin 1024) :
    k0_pay5 (F := Ideal) (iblk m c 0 t) (iblk m c 1 t) (ix2 r x) = normed m c (ix3 (sq t) (pos t r) x) := by
  have hp := places t
  have ht : t.val < 32 := t.isLt
  have h1 := norm_at m c t
  unfold normed
  generalize iblk m c 1 t = N1 at h1 ⊢
  pointwise [k0_pay5, val_main_v31, val_main_v30, val_main_v29, val_main_v28, val_main_v27, val_main_v26, val_main_v25,
    val_main_v24, val_main_v23, val_main_v22, val_main_v21, val_main_v20, val_main_v19, val_main_v18, val_main_cst_3,
    val_main_cst_4, val_main_cst_5]
  simp only [h1]
  unfold sq pos
  blk_point [iblk, V, hp]

/-- The reference's combined projection at a column. -/
theorem proj_at (c : Dev nD) (b : Fin 2) (s : Fin 8192) (e : Fin 3072) :
    proj m c (ix3 b s e) = ∑ x : Fin 1024, normed m c (ix3 b s x) * (m ((c : Thread nD τ).loc main_arg2)) (ix3 (0 : Fin 1) x e) := by
  unfold proj normed val_main_v33
  generalize val_main_v31 (F := Ideal) (m ((c : Thread nD τ).loc main_arg0)) (m ((c : Thread nD τ).loc main_arg1)) = H
  pointwise [val_main_v32]

theorem sum_swap (f g : Fin 1024 → EReal) : (∑ x, f x * g x) = ∑ x, g x * f x :=
  Finset.sum_congr rfl fun _ _ => mul_comm _ _

theorem wq_at (c : Dev nD) (t : Fin cfg0.N) (f x : Fin 1024) :
    iblk m c 2 t (ix2 f x) = m ((c : Thread nD τ).loc main_arg2) (ix3 (0 : Fin 1) x (⟨0 + f.val, by omega⟩ : Fin 3072)) := by
  have hp := places t
  refine Eq.trans ?_ (wq_entry m c f x)
  unfold iblk
  refine congrArg (V m c main_v56) ?_
  blk_ext [hp]

theorem wk_at (c : Dev nD) (t : Fin cfg0.N) (f x : Fin 1024) :
    iblk m c 3 t (ix2 x f) = m ((c : Thread nD τ).loc main_arg2) (ix3 (0 : Fin 1) x (⟨1024 + f.val, by omega⟩ : Fin 3072)) := by
  have hp := places t
  refine Eq.trans ?_ (wk_entry m c f x)
  unfold iblk
  refine congrArg (V m c main_v57) ?_
  blk_ext [hp]

theorem wv_at (c : Dev nD) (t : Fin cfg0.N) (f x : Fin 1024) :
    iblk m c 4 t (ix2 f x) = m ((c : Thread nD τ).loc main_arg2) (ix3 (0 : Fin 1) x (⟨2048 + f.val, by omega⟩ : Fin 3072)) := by
  have hp := places t
  refine Eq.trans ?_ (wv_entry m c f x)
  unfold iblk
  refine congrArg (V m c main_v59) ?_
  blk_ext [hp]

theorem cost_at (c : Dev nD) (t : Fin cfg0.N) (f : Fin 8) (x : Fin 512) :
    iblk m c 8 t (ix2 f x) = cosT (pos t x) f := by
  have hp := places t
  refine Eq.trans ?_ (cost_entry m c f (pos t x))
  unfold iblk
  refine congrArg (V m c main_v49) ?_
  unfold pos; blk_ext [hp]

theorem sint_at (c : Dev nD) (t : Fin cfg0.N) (f : Fin 8) (x : Fin 512) :
    iblk m c 9 t (ix2 f x) = sinT (pos t x) f := by
  have hp := places t
  refine Eq.trans ?_ (sint_entry m c f (pos t x))
  unfold iblk
  refine congrArg (V m c main_v50) ?_
  unfold pos; blk_ext [hp]

theorem cn_at (c : Dev nD) (t : Fin cfg0.N) (f : Fin 512) (x : Fin 128) :
    iblk m c 5 t (ix2 f x) = if x.val % 64 < 16 then cosT (pos t f) ⟨x.val % 8, by omega⟩ else 1 := by
  have hp := places t
  refine Eq.trans ?_ (cn_entry m c (pos t f) x)
  unfold iblk
  refine congrArg (V m c main_v38) ?_
  unfold pos; blk_ext [hp]

theorem sa_at (c : Dev nD) (t : Fin cfg0.N) (f : Fin 512) (x : Fin 128) :
    iblk m c 6 t (ix2 f x) = if x.val % 64 < 8 then -sinT (pos t f) ⟨x.val % 8, by omega⟩ else 0 := by
  have hp := places t
  refine Eq.trans ?_ (sa_entry m c (pos t f) x)
  unfold iblk
  refine congrArg (V m c main_v42) ?_
  unfold pos; blk_ext [hp]

theorem sb_at (c : Dev nD) (t : Fin cfg0.N) (f : Fin 512) (x : Fin 128) :
    iblk m c 7 t (ix2 f x) = if 8 ≤ x.val % 64 ∧ x.val % 64 < 16 then sinT (pos t f) ⟨x.val % 8, by omega⟩ else 0 := by
  have hp := places t
  refine Eq.trans ?_ (sb_entry m c (pos t f) x)
  unfold iblk
  refine congrArg (V m c main_v48) ?_
  unfold pos; blk_ext [hp]

/-- A product of the block is the reference's combined projection at that part's columns. -/
theorem kprod_at (c : Dev nD) (t : Fin cfg0.N) (r : Fin 512) (f : Fin 1024) :
    k0_pay6 (F := Ideal) (iblk m c 0 t) (iblk m c 1 t) (iblk m c 3 t) (ix2 r f)
      = proj m c (ix3 (sq t) (pos t r) (⟨1024 + f.val, by omega⟩ : Fin 3072)) := by
  have hn := normed_at m c t r
  have hw := wk_at m c t f
  rw [proj_at]
  unfold k0_pay6
  generalize k0_pay5 (F := Ideal) (iblk m c 0 t) (iblk m c 1 t) = H at hn ⊢
  pointwise
  simp only [hn, hw]

/-- A product of the block is the reference's combined projection at that part's columns. -/
theorem qprod_at (c : Dev nD) (t : Fin cfg0.N) (r : Fin 512) (f : Fin 1024) :
    k0_pay52 (F := Ideal) (k0_pay5 (iblk m c 0 t) (iblk m c 1 t)) (iblk m c 2 t) (ix2 f r)
      = proj m c (ix3 (sq t) (pos t r) (⟨0 + f.val, by omega⟩ : Fin 3072)) := by
  have hn := normed_at m c t r
  have hw := wq_at m c t f
  have h0 : (⟨0 + f.val, by omega⟩ : Fin 3072) = ⟨f.val, by omega⟩ := Fin.ext (Nat.zero_add _)
  rw [proj_at]
  unfold k0_pay52
  generalize k0_pay5 (F := Ideal) (iblk m c 0 t) (iblk m c 1 t) = H at hn ⊢
  pointwise
  simp only [hn, hw, h0]
  rw [sum_swap]

/-- A product of the block is the reference's combined projection at that part's columns. -/
theorem vprod_at (c : Dev nD) (t : Fin cfg0.N) (r : Fin 512) (f : Fin 1024) :
    k0_pay2 (F := Ideal) (k0_pay5 (iblk m c 0 t) (iblk m c 1 t)) (iblk m c 4 t) (ix2 f r)
      = proj m c (ix3 (sq t) (pos t r) (⟨2048 + f.val, by omega⟩ : Fin 3072)) := by
  have hn := normed_at m c t r
  have hw := wv_at m c t f
  rw [proj_at]
  unfold k0_pay2
  generalize k0_pay5 (F := Ideal) (iblk m c 0 t) (iblk m c 1 t) = H at hn ⊢
  pointwise
  simp only [hn, hw]
  rw [sum_swap]

end Cert.Proof.AttnProj

end
-- ==== Proof.AttnKeys.lean ====
/-
  The fifth program, seventh part: the block of keys a grid point leaves is the reference's.
-/
module

public import proofs.«01_k».proof.Proof.AttnRows
public import proofs.«01_k».proof.Proof.AttnBlocks
public import Idealize.ShloMosaic.Lib.Pointwise
public import Idealize.ShloMosaic.Lib.Pipeline.ValueKit

@[expose] public section

noncomputable section

namespace Cert.Proof.AttnProj

open Idealize.ShloMosaic Idealize.ShloMosaic.TcCoe Idealize.SL.Sem Cert.Kernel5Ideal Cert.Kernel5Ideal.Gen
open Cert.Reference5Ideal.Read

variable (m : (ℓ : Loc nD τ sig) → Buf (Elt Ideal) ℓ)

/-- The kernel's rotated keys, of the block at grid point `t`. -/
abbrev krow (c : Dev nD) (t : Fin cfg0.N) (r : Fin 512) (f : Fin 1024) : EReal :=
  kr (k0_pay6 (F := Ideal) (iblk m c 0 t) (iblk m c 1 t) (iblk m c 3 t)) (k0_pay7 (F := Ideal) (iblk m c 5 t))
    (k0_pay8 (F := Ideal) (iblk m c 6 t)) (k0_pay9 (F := Ideal) (iblk m c 7 t)) r f

/-- They are the reference's keys. -/
theorem krow_at (c : Dev nD) (t : Fin cfg0.N) (r : Fin 512) (f : Fin 1024) :
    krow m c t r f = val_main_v90 (F := Ideal) (m ((c : Thread nD τ).loc main_arg0)) (m ((c : Thread nD τ).loc main_arg1)) (m ((c : Thread nD τ).loc main_arg2)) (ix3 (sq t) (pos t r) f) := by
  rw [res_k]
  refine kr_rot _ _ _ _ r _ (cosT (pos t r)) (sinT (pos t r)) (kprod_at m c t r) ?_ ?_ ?_ f
  · intro l
    refine Eq.trans ?_ (cn_at m c t r l)
    generalize iblk m c 5 t = N
    pointwise [k0_pay7]
  · intro l
    refine Eq.trans ?_ (sa_at m c t r l)
    generalize iblk m c 6 t = N
    pointwise [k0_pay8]
  · intro l
    refine Eq.trans ?_ (sb_at m c t r l)
    generalize iblk m c 7 t = N
    pointwise [k0_pay9]

theorem eta_k (x : S1x512x128.Idx) : x = ix3 (0 : Fin 1) (x 1 : Fin 512) (x 2 : Fin 128) := by
  funext a
  match a with
  | ⟨0, _⟩ => exact Subsingleton.elim (α := Fin 1) _ _
  | ⟨1, _⟩ => rfl
  | ⟨2, _⟩ => rfl

theorem k_block (c : Dev nD) (t : Fin cfg0.N) (y : S1x512x1024.Idx) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) y
      = val_main_v90 (F := Ideal) (m ((c : Thread nD τ).loc main_arg0)) (m ((c : Thread nD τ).loc main_arg1)) (m ((c : Thread nD τ).loc main_arg2)) (ix3 (sq t) (pos t (y 1 : Fin 512)) (y 2 : Fin 1024)) := by
  have hk : ∀ (r : Fin 512) (f : Fin 1024), (y 1 : Fin 512).val = r.val → (y 2 : Fin 1024).val = f.val → krow m c t r f
      = val_main_v90 (F := Ideal) (m ((c : Thread nD τ).loc main_arg0)) (m ((c : Thread nD τ).loc main_arg1)) (m ((c : Thread nD τ).loc main_arg2)) (ix3 (sq t) (pos t (y 1 : Fin 512)) (y 2 : Fin 1024)) := by
    intro r f e1 e2
    obtain rfl : (y 1 : Fin 512) = r := Fin.ext e1
    obtain rfl : (y 2 : Fin 1024) = f := Fin.ext e2
    exact krow_at m c t _ _
  generalize val_main_v90 (F := Ideal) (m ((c : Thread nD τ).loc main_arg0)) (m ((c : Thread nD τ).loc main_arg1)) (m ((c : Thread nD τ).loc main_arg2)) (ix3 (sq t) (pos t (y 1 : Fin 512)) (y 2 : Fin 1024)) = v at hk ⊢
  unfold krow at hk
  unfold_out out0_11
  frame_out
  generalize iblk m c 0 t = B0 at hk ⊢
  generalize iblk m c 1 t = B1 at hk ⊢
  generalize iblk m c 3 t = B3 at hk ⊢
  generalize iblk m c 5 t = B5 at hk ⊢
  generalize iblk m c 6 t = B6 at hk ⊢
  generalize iblk m c 7 t = B7 at hk ⊢
  canon_tiles x h
  · exact (congrArg _ (eta_k x)).trans ((k_piece7 _ _ _ _ (x 1) (x 2)).trans
      (hk _ _ (by show (y 1).val = (x 1).val; omega) (by show (y 2).val = 896 + (x 2).val; omega)))
  · exact (congrArg _ (eta_k x)).trans ((k_piece6 _ _ _ _ (x 1) (x 2)).trans
      (hk _ _ (by show (y 1).val = (x 1).val; omega) (by show (y 2).val = 768 + (x 2).val; omega)))
  · exact (congrArg _ (eta_k x)).trans ((k_piece5 _ _ _ _ (x 1) (x 2)).trans
      (hk _ _ (by show (y 1).val = (x 1).val; omega) (by show (y 2).val = 640 + (x 2).val; omega)))
  · exact (congrArg _ (eta_k x)).trans ((k_piece4 _ _ _ _ (x 1) (x 2)).trans
      (hk _ _ (by show (y 1).val = (x 1).val; omega) (by show (y 2).val = 512 + (x 2).val; omega)))
  · exact (congrArg _ (eta_k x)).trans ((k_piece3 _ _ _ _ (x 1) (x 2)).trans
      (hk _ _ (by show (y 1).val = (x 1).val; omega) (by show (y 2).val = 384 + (x 2).val; omega)))
  · exact (congrArg _ (eta_k x)).trans ((k_piece2 _ _ _ _ (x 1) (x 2)).trans
      (hk _ _ (by show (y 1).val = (x 1).val; omega) (by show (y 2).val = 256 + (x 2).val; omega)))
  · exact (congrArg _ (eta_k x)).trans ((k_piece1 _ _ _ _ (x 1) (x 2)).trans
      (hk _ _ (by show (y 1).val = (x 1).val; omega) (by show (y 2).val = 128 + (x 2).val; omega)))
  · exact (congrArg _ (eta_k x)).trans ((k_piece0 _ _ _ _ _ _ (x 1) (x 2)).trans
      (hk _ _ (by show (y 1).val = (x 1).val; omega) (by show (y 2).val = 0 + (x 2).val; omega)))

end Cert.Proof.AttnProj

end
-- ==== Proof.AttnMeans.lean ====
/-
  The fifth program, fifth part: the keys' means over the two halves of a block's rows.
-/
module

public import proofs.«01_k».proof.Proof.AttnRows
public import Idealize.ShloMosaic.Lib.Pointwise
public import Idealize.ShloMosaic.Lib.Pipeline.ValueKit

@[expose] public section

noncomputable section

namespace Cert.Proof.AttnProj

open Idealize.ShloMosaic Idealize.ShloMosaic.TcCoe Idealize.SL.Sem Cert.Kernel5Ideal Cert.Kernel5Ideal.Gen
open Cert.Reference5Ideal.Read

theorem m_piece0_0 (x0 : Vec Ideal S1x512x1024 .f32) (x1 : Vec Ideal S1x1024 .f32) (x3 : Vec Ideal S1024x1024 .bf16) (x5 x6 x7 : Vec Ideal S512x128 .f32) (l : Fin 128) :
    k0_pay13 (k0_pay10 x0 x1 x3 x5 x6 x7) (ix4 (0 : Fin 1) (0 : Fin 1) (0 : Fin 1) l)
      = Ideal.div (∑ r : Fin 256, kr (k0_pay6 x0 x1 x3) (k0_pay7 x5) (k0_pay8 x6) (k0_pay9 x7) ⟨0 + r.val, by omega⟩ ⟨0 + l.val, by omega⟩)
          (Ideal.ofBits .f32 0x43800000#32) := by
  unfold k0_pay13 k0_pay10
  generalize k0_pay6 (F := Ideal) x0 x1 x3 = K
  generalize k0_pay7 (F := Ideal) x5 = CN
  generalize k0_pay8 (F := Ideal) x6 = SA
  generalize k0_pay9 (F := Ideal) x7 = SB
  pointwise
  unfold kr
  blk_point []

theorem m_piece0_1 (x0 : Vec Ideal S1x512x1024 .f32) (x1 : Vec Ideal S1x1024 .f32) (x3 : Vec Ideal S1024x1024 .bf16) (x5 x6 x7 : Vec Ideal S512x128 .f32) (l : Fin 128) :
    k0_pay14 (k0_pay10 x0 x1 x3 x5 x6 x7) (ix4 (0 : Fin 1) (0 : Fin 1) (0 : Fin 1) l)
      = Ideal.div (∑ r : Fin 256, kr (k0_pay6 x0 x1 x3) (k0_pay7 x5) (k0_pay8 x6) (k0_pay9 x7) ⟨256 + r.val, by omega⟩ ⟨0 + l.val, by omega⟩)
          (Ideal.ofBits .f32 0x43800000#32) := by
  unfold k0_pay14 k0_pay10
  generalize k0_pay6 (F := Ideal) x0 x1 x3 = K
  generalize k0_pay7 (F := Ideal) x5 = CN
  generalize k0_pay8 (F := Ideal) x6 = SA
  generalize k0_pay9 (F := Ideal) x7 = SB
  pointwise
  unfold kr
  blk_point []

theorem m_piece1_0 (K : FVec Ideal S512x1024 .f32) (CN SA SB : FVec Ideal S512x128 .f32) (l : Fin 128) :
    k0_pay18 (k0_pay17 K CN SA SB) (ix4 (0 : Fin 1) (0 : Fin 1) (0 : Fin 1) l)
      = Ideal.div (∑ r : Fin 256, kr K CN SA SB ⟨0 + r.val, by omega⟩ ⟨128 + l.val, by omega⟩)
          (Ideal.ofBits .f32 0x43800000#32) := by
  unfold k0_pay18 k0_pay17 k0_pay15
  pointwise
  unfold kr
  blk_point []

theorem m_piece1_1 (K : FVec Ideal S512x1024 .f32) (CN SA SB : FVec Ideal S512x128 .f32) (l : Fin 128) :
    k0_pay19 (k0_pay15 K CN SA SB) (ix4 (0 : Fin 1) (0 : Fin 1) (0 : Fin 1) l)
      = Ideal.div (∑ r : Fin 256, kr K CN SA SB ⟨256 + r.val, by omega⟩ ⟨128 + l.val, by omega⟩)
          (Ideal.ofBits .f32 0x43800000#32) := by
  unfold k0_pay19 k0_pay15
  pointwise
  unfold kr
  blk_point []

theorem m_piece2_0 (K : FVec Ideal S512x1024 .f32) (CN SA SB : FVec Ideal S512x128 .f32) (l : Fin 128) :
    k0_pay22 K CN SA SB (ix4 (0 : Fin 1) (0 : Fin 1) (0 : Fin 1) l)
      = Ideal.div (∑ r : Fin 256, kr K CN SA SB ⟨0 + r.val, by omega⟩ ⟨256 + l.val, by omega⟩)
          (Ideal.ofBits .f32 0x43800000#32) := by
  unfold k0_pay22 k0_pay20
  pointwise
  unfold kr
  blk_point []

theorem m_piece2_1 (K : FVec Ideal S512x1024 .f32) (CN SA SB : FVec Ideal S512x128 .f32) (l : Fin 128) :
    k0_pay25 (k0_pay23 K CN SA SB) (k0_pay24 (F := Ideal)) (ix4 (0 : Fin 1) (0 : Fin 1) (0 : Fin 1) l)
      = Ideal.div (∑ r : Fin 256, kr K CN SA SB ⟨256 + r.val, by omega⟩ ⟨256 + l.val, by omega⟩)
          (Ideal.ofBits .f32 0x43800000#32) := by
  unfold k0_pay25 k0_pay24 k0_pay23 k0_pay20
  pointwise
  unfold kr
  blk_point []

theorem m_piece3_0 (K : FVec Ideal S512x1024 .f32) (CN SA SB : FVec Ideal S512x128 .f32) (l : Fin 128) :
    k0_pay28 K CN SA SB (ix4 (0 : Fin 1) (0 : Fin 1) (0 : Fin 1) l)
      = Ideal.div (∑ r : Fin 256, kr K CN SA SB ⟨0 + r.val, by omega⟩ ⟨384 + l.val, by omega⟩)
          (Ideal.ofBits .f32 0x43800000#32) := by
  unfold k0_pay28 k0_pay26
  pointwise
  unfold kr
  blk_point []

theorem m_piece3_1 (K : FVec Ideal S512x1024 .f32) (CN SA SB : FVec Ideal S512x128 .f32) (l : Fin 128) :
    k0_pay29 K CN SA SB (ix4 (0 : Fin 1) (0 : Fin 1) (0 : Fin 1) l)
      = Ideal.div (∑ r : Fin 256, kr K CN SA SB ⟨256 + r.val, by omega⟩ ⟨384 + l.val, by omega⟩)
          (Ideal.ofBits .f32 0x43800000#32) := by
  unfold k0_pay29 k0_pay26
  pointwise
  unfold kr
  blk_point []

theorem m_piece4_0 (K : FVec Ideal S512x1024 .f32) (CN SA SB : FVec Ideal S512x128 .f32) (l : Fin 128) :
    k0_pay34 SA SB (k0_pay30 K) (k0_pay31 K CN) 120#32 (ix4 (0 : Fin 1) (0 : Fin 1) (0 : Fin 1) l)
      = Ideal.div (∑ r : Fin 256, kr K CN SA SB ⟨0 + r.val, by omega⟩ ⟨512 + l.val, by omega⟩)
          (Ideal.ofBits .f32 0x43800000#32) := by
  unfold k0_pay34 k0_pay32 k0_pay31 k0_pay30
  pointwise
  unfold kr
  blk_point []

theorem m_piece4_1 (K : FVec Ideal S512x1024 .f32) (CN SA SB : FVec Ideal S512x128 .f32) (l : Fin 128) :
    k0_pay35 SA SB (k0_pay30 K) (k0_pay31 K CN) 120#32 (ix4 (0 : Fin 1) (0 : Fin 1) (0 : Fin 1) l)
      = Ideal.div (∑ r : Fin 256, kr K CN SA SB ⟨256 + r.val, by omega⟩ ⟨512 + l.val, by omega⟩)
          (Ideal.ofBits .f32 0x43800000#32) := by
  unfold k0_pay35 k0_pay32 k0_pay31 k0_pay30
  pointwise
  unfold kr
  blk_point []

theorem m_piece5_0 (K : FVec Ideal S512x1024 .f32) (CN SA SB : FVec Ideal S512x128 .f32) (l : Fin 128) :
    k0_pay39 (k0_pay36 K CN SA SB) (ix4 (0 : Fin 1) (0 : Fin 1) (0 : Fin 1) l)
      = Ideal.div (∑ r : Fin 256, kr K CN SA SB ⟨0 + r.val, by omega⟩ ⟨640 + l.val, by omega⟩)
          (Ideal.ofBits .f32 0x43800000#32) := by
  unfold k0_pay39 k0_pay36
  pointwise
  unfold kr
  blk_point []

theorem m_piece5_1 (K : FVec Ideal S512x1024 .f32) (CN SA SB : FVec Ideal S512x128 .f32) (l : Fin 128) :
    k0_pay40 (k0_pay36 K CN SA SB) (ix4 (0 : Fin 1) (0 : Fin 1) (0 : Fin 1) l)
      = Ideal.div (∑ r : Fin 256, kr K CN SA SB ⟨256 + r.val, by omega⟩ ⟨640 + l.val, by omega⟩)
          (Ideal.ofBits .f32 0x43800000#32) := by
  unfold k0_pay40 k0_pay36
  pointwise
  unfold kr
  blk_point []

theorem m_piece6_0 (K : FVec Ideal S512x1024 .f32) (CN SA SB : FVec Ideal S512x128 .f32) (l : Fin 128) :
    k0_pay44 (k0_pay43 K CN SA SB) (ix4 (0 : Fin 1) (0 : Fin 1) (0 : Fin 1) l)
      = Ideal.div (∑ r : Fin 256, kr K CN SA SB ⟨0 + r.val, by omega⟩ ⟨768 + l.val, by omega⟩)
          (Ideal.ofBits .f32 0x43800000#32) := by
  unfold k0_pay44 k0_pay43 k0_pay41
  pointwise
  unfold kr
  blk_point []

theorem m_piece6_1 (K : FVec Ideal S512x1024 .f32) (CN SA SB : FVec Ideal S512x128 .f32) (l : Fin 128) :
    k0_pay45 (k0_pay41 K CN SA SB) (ix4 (0 : Fin 1) (0 : Fin 1) (0 : Fin 1) l)
      = Ideal.div (∑ r : Fin 256, kr K CN SA SB ⟨256 + r.val, by omega⟩ ⟨768 + l.val, by omega⟩)
          (Ideal.ofBits .f32 0x43800000#32) := by
  unfold k0_pay45 k0_pay41
  pointwise
  unfold kr
  blk_point []

theorem m_piece7_0 (K : FVec Ideal S512x1024 .f32) (CN SA SB : FVec Ideal S512x128 .f32) (l : Fin 128) :
    k0_pay48 K CN SA SB (ix4 (0 : Fin 1) (0 : Fin 1) (0 : Fin 1) l)
      = Ideal.div (∑ r : Fin 256, kr K CN SA SB ⟨0 + r.val, by omega⟩ ⟨896 + l.val, by omega⟩)
          (Ideal.ofBits .f32 0x43800000#32) := by
  unfold k0_pay48 k0_pay46
  pointwise
  unfold kr
  blk_point []

theorem m_piece7_1 (K : FVec Ideal S512x1024 .f32) (CN SA SB : FVec Ideal S512x128 .f32) (l : Fin 128) :
    k0_pay51 (k0_pay49 K CN SA SB) (k0_pay50 (F := Ideal)) (ix4 (0 : Fin 1) (0 : Fin 1) (0 : Fin 1) l)
      = Ideal.div (∑ r : Fin 256, kr K CN SA SB ⟨256 + r.val, by omega⟩ ⟨896 + l.val, by omega⟩)
          (Ideal.ofBits .f32 0x43800000#32) := by
  unfold k0_pay51 k0_pay50 k0_pay49 k0_pay46
  pointwise
  unfold kr
  blk_point []

end Cert.Proof.AttnProj

end
-- ==== Proof.AttnHeads.lean ====
/-
  The fifth program, sixth part: the queries' pieces. Each of the sixteen heads stores its rotated and scaled queries, one row
  per dimension.
-/
module

public import proofs.«01_k».proof.Proof.AttnRef
public import Idealize.ShloMosaic.Lib.Pointwise
public import Idealize.ShloMosaic.Lib.Pipeline.ValueKit

@[expose] public section

noncomputable section

namespace Cert.Proof.AttnProj

open Idealize.ShloMosaic Idealize.ShloMosaic.TcCoe Idealize.SL.Sem Cert.Kernel5Ideal Cert.Kernel5Ideal.Gen
open Cert.Reference5Ideal.Read

/-- A query of the block after rotation and scaling. -/
def qr (Q : FVec Ideal S1024x512 .f32) (C S : FVec Ideal S8x512 .f32) (f : Fin 1024) (r : Fin 512) : EReal :=
  rot (fun f => Q (ix2 f r)) (fun j => C (ix2 j r)) (fun j => S (ix2 j r)) f * Ideal.ofBits .f32 0x3E38AA3B#32

theorem q_piece0 (H : FVec Ideal S512x1024 .bf16) (W : Vec Ideal S1024x1024 .bf16) (X Y : Vec Ideal S8x512 .f32) (d : Fin 64) (r : Fin 512) :
    k0_pay55 H W X Y (ix3 (0 : Fin 1) d r) = qr (k0_pay52 H W) (k0_pay53 X) (k0_pay54 Y) ⟨0 + d.val, by omega⟩ r := by
  have he : (⟨0 + d.val, by omega⟩ : Fin 1024).val = 0 + d.val := rfl
  generalize (⟨0 + d.val, by omega⟩ : Fin 1024) = e at he ⊢
  unfold k0_pay55 qr
  generalize k0_pay52 (F := Ideal) H W = Q
  generalize k0_pay53 (F := Ideal) X = C
  generalize k0_pay54 (F := Ideal) Y = S
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece1 (H : FVec Ideal S512x1024 .bf16) (W : Vec Ideal S1024x1024 .bf16) (X Y : Vec Ideal S8x512 .f32) (d : Fin 64) (r : Fin 512) :
    k0_pay57 (k0_pay56 H W X Y) (ix3 (0 : Fin 1) d r) = qr (k0_pay52 H W) (k0_pay53 X) (k0_pay54 Y) ⟨64 + d.val, by omega⟩ r := by
  have he : (⟨64 + d.val, by omega⟩ : Fin 1024).val = 64 + d.val := rfl
  generalize (⟨64 + d.val, by omega⟩ : Fin 1024) = e at he ⊢
  unfold k0_pay57 k0_pay56 qr
  generalize k0_pay52 (F := Ideal) H W = Q
  generalize k0_pay53 (F := Ideal) X = C
  generalize k0_pay54 (F := Ideal) Y = S
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece2 (Q : FVec Ideal S1024x512 .f32) (C S : FVec Ideal S8x512 .f32) (d : Fin 64) (r : Fin 512) :
    k0_pay58 Q C S (ix3 (0 : Fin 1) d r) = qr Q C S ⟨128 + d.val, by omega⟩ r := by
  have he : (⟨128 + d.val, by omega⟩ : Fin 1024).val = 128 + d.val := rfl
  generalize (⟨128 + d.val, by omega⟩ : Fin 1024) = e at he ⊢
  unfold k0_pay58 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece3 (Q : FVec Ideal S1024x512 .f32) (C S : FVec Ideal S8x512 .f32) (d : Fin 64) (r : Fin 512) :
    k0_pay59 Q C S (ix3 (0 : Fin 1) d r) = qr Q C S ⟨192 + d.val, by omega⟩ r := by
  have he : (⟨192 + d.val, by omega⟩ : Fin 1024).val = 192 + d.val := rfl
  generalize (⟨192 + d.val, by omega⟩ : Fin 1024) = e at he ⊢
  unfold k0_pay59 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece4 (Q : FVec Ideal S1024x512 .f32) (C S : FVec Ideal S8x512 .f32) (d : Fin 64) (r : Fin 512) :
    k0_pay65 (k0_pay60 Q) (k0_pay63 Q C S) (k0_pay64 Q C S) (ix3 (0 : Fin 1) d r) = qr Q C S ⟨256 + d.val, by omega⟩ r := by
  have he : (⟨256 + d.val, by omega⟩ : Fin 1024).val = 256 + d.val := rfl
  generalize (⟨256 + d.val, by omega⟩ : Fin 1024) = e at he ⊢
  unfold k0_pay65 k0_pay63 k0_pay64 k0_pay61 k0_pay62 k0_pay60 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece5 (Q : FVec Ideal S1024x512 .f32) (C S : FVec Ideal S8x512 .f32) (d : Fin 64) (r : Fin 512) :
    k0_pay66 Q C S (ix3 (0 : Fin 1) d r) = qr Q C S ⟨320 + d.val, by omega⟩ r := by
  have he : (⟨320 + d.val, by omega⟩ : Fin 1024).val = 320 + d.val := rfl
  generalize (⟨320 + d.val, by omega⟩ : Fin 1024) = e at he ⊢
  unfold k0_pay66 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece6 (Q : FVec Ideal S1024x512 .f32) (C S : FVec Ideal S8x512 .f32) (d : Fin 64) (r : Fin 512) :
    k0_pay67 Q C S (ix3 (0 : Fin 1) d r) = qr Q C S ⟨384 + d.val, by omega⟩ r := by
  have he : (⟨384 + d.val, by omega⟩ : Fin 1024).val = 384 + d.val := rfl
  generalize (⟨384 + d.val, by omega⟩ : Fin 1024) = e at he ⊢
  unfold k0_pay67 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece7 (Q : FVec Ideal S1024x512 .f32) (C S : FVec Ideal S8x512 .f32) (d : Fin 64) (r : Fin 512) :
    k0_pay71 C S (k0_pay68 Q) (k0_pay69 Q) (k0_pay70 Q) (ix3 (0 : Fin 1) d r) = qr Q C S ⟨448 + d.val, by omega⟩ r := by
  have he : (⟨448 + d.val, by omega⟩ : Fin 1024).val = 448 + d.val := rfl
  generalize (⟨448 + d.val, by omega⟩ : Fin 1024) = e at he ⊢
  unfold k0_pay71 k0_pay69 k0_pay70 k0_pay68 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece8 (Q : FVec Ideal S1024x512 .f32) (C S : FVec Ideal S8x512 .f32) (d : Fin 64) (r : Fin 512) :
    k0_pay72 Q C S (ix3 (0 : Fin 1) d r) = qr Q C S ⟨512 + d.val, by omega⟩ r := by
  have he : (⟨512 + d.val, by omega⟩ : Fin 1024).val = 512 + d.val := rfl
  generalize (⟨512 + d.val, by omega⟩ : Fin 1024) = e at he ⊢
  unfold k0_pay72 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece9 (Q : FVec Ideal S1024x512 .f32) (C S : FVec Ideal S8x512 .f32) (d : Fin 64) (r : Fin 512) :
    k0_pay74 (k0_pay73 Q C S) (ix3 (0 : Fin 1) d r) = qr Q C S ⟨576 + d.val, by omega⟩ r := by
  have he : (⟨576 + d.val, by omega⟩ : Fin 1024).val = 576 + d.val := rfl
  generalize (⟨576 + d.val, by omega⟩ : Fin 1024) = e at he ⊢
  unfold k0_pay74 k0_pay73 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece10 (Q : FVec Ideal S1024x512 .f32) (C S : FVec Ideal S8x512 .f32) (d : Fin 64) (r : Fin 512) :
    k0_pay75 Q C S (ix3 (0 : Fin 1) d r) = qr Q C S ⟨640 + d.val, by omega⟩ r := by
  have he : (⟨640 + d.val, by omega⟩ : Fin 1024).val = 640 + d.val := rfl
  generalize (⟨640 + d.val, by omega⟩ : Fin 1024) = e at he ⊢
  unfold k0_pay75 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece11 (Q : FVec Ideal S1024x512 .f32) (C S : FVec Ideal S8x512 .f32) (d : Fin 64) (r : Fin 512) :
    k0_pay76 Q C S (ix3 (0 : Fin 1) d r) = qr Q C S ⟨704 + d.val, by omega⟩ r := by
  have he : (⟨704 + d.val, by omega⟩ : Fin 1024).val = 704 + d.val := rfl
  generalize (⟨704 + d.val, by omega⟩ : Fin 1024) = e at he ⊢
  unfold k0_pay76 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece12 (Q : FVec Ideal S1024x512 .f32) (C S : FVec Ideal S8x512 .f32) (d : Fin 64) (r : Fin 512) :
    k0_pay79 (k0_pay77 Q C S) (k0_pay78 (F := Ideal)) (ix3 (0 : Fin 1) d r) = qr Q C S ⟨768 + d.val, by omega⟩ r := by
  have he : (⟨768 + d.val, by omega⟩ : Fin 1024).val = 768 + d.val := rfl
  generalize (⟨768 + d.val, by omega⟩ : Fin 1024) = e at he ⊢
  unfold k0_pay79 k0_pay77 k0_pay78 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece13 (Q : FVec Ideal S1024x512 .f32) (C S : FVec Ideal S8x512 .f32) (d : Fin 64) (r : Fin 512) :
    k0_pay80 Q C S (ix3 (0 : Fin 1) d r) = qr Q C S ⟨832 + d.val, by omega⟩ r := by
  have he : (⟨832 + d.val, by omega⟩ : Fin 1024).val = 832 + d.val := rfl
  generalize (⟨832 + d.val, by omega⟩ : Fin 1024) = e at he ⊢
  unfold k0_pay80 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece14 (Q : FVec Ideal S1024x512 .f32) (C S : FVec Ideal S8x512 .f32) (d : Fin 64) (r : Fin 512) :
    k0_pay81 Q C S (ix3 (0 : Fin 1) d r) = qr Q C S ⟨896 + d.val, by omega⟩ r := by
  have he : (⟨896 + d.val, by omega⟩ : Fin 1024).val = 896 + d.val := rfl
  generalize (⟨896 + d.val, by omega⟩ : Fin 1024) = e at he ⊢
  unfold k0_pay81 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

theorem q_piece15 (Q : FVec Ideal S1024x512 .f32) (C S : FVec Ideal S8x512 .f32) (d : Fin 64) (r : Fin 512) :
    k0_pay1 S (k0_pay82 Q) (k0_pay83 Q) (k0_pay85 Q C S) (k0_pay86 Q C) (ix3 (0 : Fin 1) d r) = qr Q C S ⟨960 + d.val, by omega⟩ r := by
  have he : (⟨960 + d.val, by omega⟩ : Fin 1024).val = 960 + d.val := rfl
  generalize (⟨960 + d.val, by omega⟩ : Fin 1024) = e at he ⊢
  unfold k0_pay1 k0_pay85 k0_pay86 k0_pay83 k0_pay84 k0_pay82 qr
  pointwise
  refine congrArg (fun z => z * Ideal.ofBits .f32 0x3E38AA3B#32) ?_
  by_cases c1 : d.val < 8
  · have c3 : e.val % 64 < 8 := by omega
    rw [dif_pos c1, rot_lo _ _ _ e c3]
    blk_point [he]
  · by_cases c2 : d.val - 8 < 8
    · have c3 : ¬ e.val % 64 < 8 := by omega
      have c4 : e.val % 64 < 16 := by omega
      rw [dif_neg c1, dif_pos c2, rot_mid _ _ _ e c3 c4]
      blk_point [he]
    · have c3 : ¬ e.val % 64 < 8 := by omega
      have c4 : ¬ e.val % 64 < 16 := by omega
      rw [dif_neg c1, dif_neg c2, rot_hi _ _ _ e c3 c4]
      blk_point [he]

end Cert.Proof.AttnProj

end
-- ==== Proof.AttnProj.lean ====
/-
  The fifth program, last part: the other three blocks a grid point leaves, the four result arrays, and the claim.
-/
module

public import proofs.«01_k».proof.Proof.AttnKeys
public import proofs.«01_k».proof.Proof.AttnMeans
public import proofs.«01_k».proof.Proof.AttnHeads
public import Idealize.ShloMosaic.Lib.Claim
public import Idealize.ShloMosaic.Lib.Pointwise
public import Idealize.ShloMosaic.Lib.Pipeline.ValueKit

@[expose] public section

noncomputable section

namespace Cert.Proof.AttnProj

open Idealize.ShloMosaic Idealize.ShloMosaic.TcCoe Idealize.SL.Sem Cert.Kernel5Ideal Cert.Kernel5Ideal.Gen
open Cert.Reference5Ideal.Read

variable (m : (ℓ : Loc nD τ sig) → Buf (Elt Ideal) ℓ)

/-- The kernel's rotated and scaled queries, of the block at grid point `t`. -/
abbrev qrow (c : Dev nD) (t : Fin cfg0.N) (f : Fin 1024) (r : Fin 512) : EReal :=
  qr (k0_pay52 (F := Ideal) (k0_pay5 (iblk m c 0 t) (iblk m c 1 t)) (iblk m c 2 t)) (k0_pay53 (F := Ideal) (iblk m c 8 t))
    (k0_pay54 (F := Ideal) (iblk m c 9 t)) f r

/-- They are the reference's queries. -/
theorem qrow_at (c : Dev nD) (t : Fin cfg0.N) (f : Fin 1024) (r : Fin 512) :
    qrow m c t f r = val_main_v87 (F := Ideal) (m ((c : Thread nD τ).loc main_arg0)) (m ((c : Thread nD τ).loc main_arg1)) (m ((c : Thread nD τ).loc main_arg2)) (ix3 (sq t) f (pos t r)) := by
  rw [res_q]
  unfold qrow qr
  have hQ : (fun f => k0_pay52 (F := Ideal) (k0_pay5 (iblk m c 0 t) (iblk m c 1 t)) (iblk m c 2 t) (ix2 f r))
      = fun f : Fin 1024 => proj m c (ix3 (sq t) (pos t r) (⟨0 + f.val, by omega⟩ : Fin 3072)) :=
    funext fun f => qprod_at m c t r f
  have hC : (fun j => k0_pay53 (F := Ideal) (iblk m c 8 t) (ix2 j r)) = cosT (pos t r) := by
    funext j
    refine Eq.trans ?_ (cost_at m c t j r)
    generalize iblk m c 8 t = N
    pointwise [k0_pay53]
  have hS : (fun j => k0_pay54 (F := Ideal) (iblk m c 9 t) (ix2 j r)) = sinT (pos t r) := by
    funext j
    refine Eq.trans ?_ (sint_at m c t j r)
    generalize iblk m c 9 t = N
    pointwise [k0_pay54]
  rw [hQ, hC, hS]

theorem eta_q (x : S1x64x512.Idx) : x = ix3 (0 : Fin 1) (x 1 : Fin 64) (x 2 : Fin 512) := by
  funext a
  match a with
  | ⟨0, _⟩ => exact Subsingleton.elim (α := Fin 1) _ _
  | ⟨1, _⟩ => rfl
  | ⟨2, _⟩ => rfl

theorem q_block (c : Dev nD) (t : Fin cfg0.N) (y : S1x1024x512.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = val_main_v87 (F := Ideal) (m ((c : Thread nD τ).loc main_arg0)) (m ((c : Thread nD τ).loc main_arg1)) (m ((c : Thread nD τ).loc main_arg2)) (ix3 (sq t) (y 1 : Fin 1024) (pos t (y 2 : Fin 512))) := by
  have hk : ∀ (f : Fin 1024) (r : Fin 512), (y 1 : Fin 1024).val = f.val → (y 2 : Fin 512).val = r.val → qrow m c t f r
      = val_main_v87 (F := Ideal) (m ((c : Thread nD τ).loc main_arg0)) (m ((c : Thread nD τ).loc main_arg1)) (m ((c : Thread nD τ).loc main_arg2)) (ix3 (sq t) (y 1 : Fin 1024) (pos t (y 2 : Fin 512))) := by
    intro f r e1 e2
    obtain rfl : (y 1 : Fin 1024) = f := Fin.ext e1
    obtain rfl : (y 2 : Fin 512) = r := Fin.ext e2
    exact qrow_at m c t _ _
  generalize val_main_v87 (F := Ideal) (m ((c : Thread nD τ).loc main_arg0)) (m ((c : Thread nD τ).loc main_arg1)) (m ((c : Thread nD τ).loc main_arg2)) (ix3 (sq t) (y 1 : Fin 1024) (pos t (y 2 : Fin 512))) = v at hk ⊢
  unfold qrow at hk
  unfold_out out0_10
  frame_out
  generalize k0_pay5 (iblk m c 0 t) (iblk m c 1 t) = B0 at hk ⊢
  generalize iblk m c 2 t = B2 at hk ⊢
  generalize iblk m c 8 t = B8 at hk ⊢
  generalize iblk m c 9 t = B9 at hk ⊢
  canon_tiles x h
  · exact (congrArg _ (eta_q x)).trans ((q_piece15 _ _ _ (x 1) (x 2)).trans
      (hk _ _ (by show (y 1).val = 960 + (x 1).val; omega) (by show (y 2).val = (x 2).val; omega)))
  · exact (congrArg _ (eta_q x)).trans ((q_piece14 _ _ _ (x 1) (x 2)).trans
      (hk _ _ (by show (y 1).val = 896 + (x 1).val; omega) (by show (y 2).val = (x 2).val; omega)))
  · exact (congrArg _ (eta_q x)).trans ((q_piece13 _ _ _ (x 1) (x 2)).trans
      (hk _ _ (by show (y 1).val = 832 + (x 1).val; omega) (by show (y 2).val = (x 2).val; omega)))
  · exact (congrArg _ (eta_q x)).trans ((q_piece12 _ _ _ (x 1) (x 2)).trans
      (hk _ _ (by show (y 1).val = 768 + (x 1).val; omega) (by show (y 2).val = (x 2).val; omega)))
  · exact (congrArg _ (eta_q x)).trans ((q_piece11 _ _ _ (x 1) (x 2)).trans
      (hk _ _ (by show (y 1).val = 704 + (x 1).val; omega) (by show (y 2).val = (x 2).val; omega)))
  · exact (congrArg _ (eta_q x)).trans ((q_piece10 _ _ _ (x 1) (x 2)).trans
      (hk _ _ (by show (y 1).val = 640 + (x 1).val; omega) (by show (y 2).val = (x 2).val; omega)))
  · exact (congrArg _ (eta_q x)).trans ((q_piece9 _ _ _ (x 1) (x 2)).trans
      (hk _ _ (by show (y 1).val = 576 + (x 1).val; omega) (by show (y 2).val = (x 2).val; omega)))
  · exact (congrArg _ (eta_q x)).trans ((q_piece8 _ _ _ (x 1) (x 2)).trans
      (hk _ _ (by show (y 1).val = 512 + (x 1).val; omega) (by show (y 2).val = (x 2).val; omega)))
  · exact (congrArg _ (eta_q x)).trans ((q_piece7 _ _ _ (x 1) (x 2)).trans
      (hk _ _ (by show (y 1).val = 448 + (x 1).val; omega) (by show (y 2).val = (x 2).val; omega)))
  · exact (congrArg _ (eta_q x)).trans ((q_piece6 _ _ _ (x 1) (x 2)).trans
      (hk _ _ (by show (y 1).val = 384 + (x 1).val; omega) (by show (y 2).val = (x 2).val; omega)))
  · exact (congrArg _ (eta_q x)).trans ((q_piece5 _ _ _ (x 1) (x 2)).trans
      (hk _ _ (by show (y 1).val = 320 + (x 1).val; omega) (by show (y 2).val = (x 2).val; omega)))
  · exact (congrArg _ (eta_q x)).trans ((q_piece4 _ _ _ (x 1) (x 2)).trans
      (hk _ _ (by show (y 1).val = 256 + (x 1).val; omega) (by show (y 2).val = (x 2).val; omega)))
  · exact (congrArg _ (eta_q x)).trans ((q_piece3 _ _ _ (x 1) (x 2)).trans
      (hk _ _ (by show (y 1).val = 192 + (x 1).val; omega) (by show (y 2).val = (x 2).val; omega)))
  · exact (congrArg _ (eta_q x)).trans ((q_piece2 _ _ _ (x 1) (x 2)).trans
      (hk _ _ (by show (y 1).val = 128 + (x 1).val; omega) (by show (y 2).val = (x 2).val; omega)))
  · exact (congrArg _ (eta_q x)).trans ((q_piece1 _ _ _ _ (x 1) (x 2)).trans
      (hk _ _ (by show (y 1).val = 64 + (x 1).val; omega) (by show (y 2).val = (x 2).val; omega)))
  · exact (congrArg _ (eta_q x)).trans ((q_piece0 _ _ _ _ (x 1) (x 2)).trans
      (hk _ _ (by show (y 1).val = 0 + (x 1).val; omega) (by show (y 2).val = (x 2).val; omega)))

theorem v_piece0 (H : FVec Ideal S512x1024 .bf16) (W : Vec Ideal S1024x1024 .bf16) (f : Fin 1024) (r : Fin 256) :
    k0_pay3 H W (ix4 (0 : Fin 1) (0 : Fin 1) f r) = k0_pay2 H W (ix2 f (⟨0 + r.val, by omega⟩ : Fin 512)) := by
  unfold k0_pay3
  generalize k0_pay2 (F := Ideal) H W = Q
  pointwise

theorem v_piece1 (H : FVec Ideal S512x1024 .bf16) (W : Vec Ideal S1024x1024 .bf16) (f : Fin 1024) (r : Fin 256) :
    k0_pay4 H W (ix4 (0 : Fin 1) (0 : Fin 1) f r) = k0_pay2 H W (ix2 f (⟨256 + r.val, by omega⟩ : Fin 512)) := by
  unfold k0_pay4
  generalize k0_pay2 (F := Ideal) H W = Q
  pointwise

theorem eta_v (x : S1x1x1024x256.Idx) : x = ix4 (0 : Fin 1) (0 : Fin 1) (x 2 : Fin 1024) (x 3 : Fin 256) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- The key block that half `j` of the block at point `t` is. -/
def half (t : Fin cfg0.N) (j : Fin 2) : Fin 32 := ⟨t.val % 16 * 2 + j.val, by omega⟩

theorem v_block (c : Dev nD) (t : Fin cfg0.N) (y : S1x2x1024x256.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) y
      = val_main_v93 (F := Ideal) (m ((c : Thread nD τ).loc main_arg0)) (m ((c : Thread nD τ).loc main_arg1)) (m ((c : Thread nD τ).loc main_arg2)) (ix4 (sq t) (half t (y 1 : Fin 2)) (y 2 : Fin 1024) (y 3 : Fin 256)) := by
  have hk : ∀ (f : Fin 1024) (r : Fin 512), (y 2 : Fin 1024).val = f.val → (y 1 : Fin 2).val * 256 + (y 3 : Fin 256).val = r.val →
      k0_pay2 (F := Ideal) (k0_pay5 (iblk m c 0 t) (iblk m c 1 t)) (iblk m c 4 t) (ix2 f r)
      = val_main_v93 (F := Ideal) (m ((c : Thread nD τ).loc main_arg0)) (m ((c : Thread nD τ).loc main_arg1)) (m ((c : Thread nD τ).loc main_arg2)) (ix4 (sq t) (half t (y 1 : Fin 2)) (y 2 : Fin 1024) (y 3 : Fin 256)) := by
    intro f r e1 e2
    obtain rfl : (y 2 : Fin 1024) = f := Fin.ext e1
    rw [res_v _ _ _ (sq t) (half t (y 1 : Fin 2)) (y 2 : Fin 1024) (y 3 : Fin 256) (pos t r)
      (by unfold half pos; show t.val % 16 * 512 + r.val = (t.val % 16 * 2 + (y 1 : Fin 2).val) * 256 + (y 3 : Fin 256).val; omega)]
    exact vprod_at m c t r _
  generalize val_main_v93 (F := Ideal) (m ((c : Thread nD τ).loc main_arg0)) (m ((c : Thread nD τ).loc main_arg1)) (m ((c : Thread nD τ).loc main_arg2)) (ix4 (sq t) (half t (y 1 : Fin 2)) (y 2 : Fin 1024) (y 3 : Fin 256)) = v at hk ⊢
  unfold_out out0_12
  frame_out
  generalize k0_pay5 (iblk m c 0 t) (iblk m c 1 t) = B0 at hk ⊢
  generalize iblk m c 4 t = B4 at hk ⊢
  canon_tiles x h
  · exact (congrArg _ (eta_v x)).trans ((v_piece1 _ _ (x 2) (x 3)).trans
      (hk _ _ (by show (y 2).val = (x 2).val; omega) (by show (y 1).val * 256 + (y 3).val = 256 + (x 3).val; omega)))
  · exact (congrArg _ (eta_v x)).trans ((v_piece0 _ _ (x 2) (x 3)).trans
      (hk _ _ (by show (y 2).val = (x 2).val; omega) (by show (y 1).val * 256 + (y 3).val = 0 + (x 3).val; omega)))

theorem eta_m (x : S1x1x1x128.Idx) : x = ix4 (0 : Fin 1) (0 : Fin 1) (0 : Fin 1) (x 3 : Fin 128) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The two-block row of the key means that grid point `t` writes. -/
def row (t : Fin cfg0.N) : Fin 16 := ⟨t.val % 16, by omega⟩

theorem m_block (c : Dev nD) (t : Fin cfg0.N) (y : S1x1x2x1024.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) y
      = val_main_v95 (F := Ideal) (m ((c : Thread nD τ).loc main_arg0)) (m ((c : Thread nD τ).loc main_arg1)) (m ((c : Thread nD τ).loc main_arg2)) (ix4 (sq t) (row t) (y 2 : Fin 2) (y 3 : Fin 1024)) := by
  have hk : ∀ (g : Fin 256 → Fin 512) (f : Fin 1024), (y 3 : Fin 1024).val = f.val → (∀ r : Fin 256, (g r).val = (y 2 : Fin 2).val * 256 + r.val) →
      Ideal.div (∑ r : Fin 256, krow m c t (g r) f) (Ideal.ofBits .f32 0x43800000#32)
      = val_main_v95 (F := Ideal) (m ((c : Thread nD τ).loc main_arg0)) (m ((c : Thread nD τ).loc main_arg1)) (m ((c : Thread nD τ).loc main_arg2)) (ix4 (sq t) (row t) (y 2 : Fin 2) (y 3 : Fin 1024)) := by
    intro g f e1 e2
    obtain rfl : (y 3 : Fin 1024) = f := Fin.ext e1
    refine Eq.trans ?_ (res_m _ _ _ (sq t) (row t) (y 2 : Fin 2) (y 3 : Fin 1024)).symm
    refine congrArg (fun z => Ideal.div z _) (Finset.sum_congr rfl fun r _ => ?_)
    refine (krow_at m c t (g r) (y 3 : Fin 1024)).trans ?_
    refine congrArg (fun s : Fin 8192 => val_main_v90 (F := Ideal) (m ((c : Thread nD τ).loc main_arg0)) (m ((c : Thread nD τ).loc main_arg1)) (m ((c : Thread nD τ).loc main_arg2)) (ix3 (sq t) s (y 3 : Fin 1024))) (Fin.ext ?_)
    have := e2 r
    unfold pos row
    show t.val % 16 * 512 + (g r).val = t.val % 16 * 512 + ((y 2 : Fin 2).val * 256 + r.val)
    omega
  generalize val_main_v95 (F := Ideal) (m ((c : Thread nD τ).loc main_arg0)) (m ((c : Thread nD τ).loc main_arg1)) (m ((c : Thread nD τ).loc main_arg2)) (ix4 (sq t) (row t) (y 2 : Fin 2) (y 3 : Fin 1024)) = v at hk ⊢
  unfold krow at hk
  unfold_out out0_13
  frame_out
  generalize iblk m c 0 t = B0 at hk ⊢
  generalize iblk m c 1 t = B1 at hk ⊢
  generalize iblk m c 3 t = B3 at hk ⊢
  generalize iblk m c 5 t = B5 at hk ⊢
  generalize iblk m c 6 t = B6 at hk ⊢
  generalize iblk m c 7 t = B7 at hk ⊢
  canon_tiles x h
  · exact (congrArg _ (eta_m x)).trans ((m_piece7_1 _ _ _ _ (x 3)).trans
      (hk _ _ (by show (y 3).val = 896 + (x 3).val; omega) (fun r => by show 256 + r.val = (y 2).val * 256 + r.val; omega)))
  · exact (congrArg _ (eta_m x)).trans ((m_piece7_0 _ _ _ _ (x 3)).trans
      (hk _ _ (by show (y 3).val = 896 + (x 3).val; omega) (fun r => by show 0 + r.val = (y 2).val * 256 + r.val; omega)))
  · exact (congrArg _ (eta_m x)).trans ((m_piece6_1 _ _ _ _ (x 3)).trans
      (hk _ _ (by show (y 3).val = 768 + (x 3).val; omega) (fun r => by show 256 + r.val = (y 2).val * 256 + r.val; omega)))
  · exact (congrArg _ (eta_m x)).trans ((m_piece6_0 _ _ _ _ (x 3)).trans
      (hk _ _ (by show (y 3).val = 768 + (x 3).val; omega) (fun r => by show 0 + r.val = (y 2).val * 256 + r.val; omega)))
  · exact (congrArg _ (eta_m x)).trans ((m_piece5_1 _ _ _ _ (x 3)).trans
      (hk _ _ (by show (y 3).val = 640 + (x 3).val; omega) (fun r => by show 256 + r.val = (y 2).val * 256 + r.val; omega)))
  · exact (congrArg _ (eta_m x)).trans ((m_piece5_0 _ _ _ _ (x 3)).trans
      (hk _ _ (by show (y 3).val = 640 + (x 3).val; omega) (fun r => by show 0 + r.val = (y 2).val * 256 + r.val; omega)))
  · exact (congrArg _ (eta_m x)).trans ((m_piece4_1 _ _ _ _ (x 3)).trans
      (hk _ _ (by show (y 3).val = 512 + (x 3).val; omega) (fun r => by show 256 + r.val = (y 2).val * 256 + r.val; omega)))
  · exact (congrArg _ (eta_m x)).trans ((m_piece4_0 _ _ _ _ (x 3)).trans
      (hk _ _ (by show (y 3).val = 512 + (x 3).val; omega) (fun r => by show 0 + r.val = (y 2).val * 256 + r.val; omega)))
  · exact (congrArg _ (eta_m x)).trans ((m_piece3_1 _ _ _ _ (x 3)).trans
      (hk _ _ (by show (y 3).val = 384 + (x 3).val; omega) (fun r => by show 256 + r.val = (y 2).val * 256 + r.val; omega)))
  · exact (congrArg _ (eta_m x)).trans ((m_piece3_0 _ _ _ _ (x 3)).trans
      (hk _ _ (by show (y 3).val = 384 + (x 3).val; omega) (fun r => by show 0 + r.val = (y 2).val * 256 + r.val; omega)))
  · exact (congrArg _ (eta_m x)).trans ((m_piece2_1 _ _ _ _ (x 3)).trans
      (hk _ _ (by show (y 3).val = 256 + (x 3).val; omega) (fun r => by show 256 + r.val = (y 2).val * 256 + r.val; omega)))
  · exact (congrArg _ (eta_m x)).trans ((m_piece2_0 _ _ _ _ (x 3)).trans
      (hk _ _ (by show (y 3).val = 256 + (x 3).val; omega) (fun r => by show 0 + r.val = (y 2).val * 256 + r.val; omega)))
  · exact (congrArg _ (eta_m x)).trans ((m_piece1_1 _ _ _ _ (x 3)).trans
      (hk _ _ (by show (y 3).val = 128 + (x 3).val; omega) (fun r => by show 256 + r.val = (y 2).val * 256 + r.val; omega)))
  · exact (congrArg _ (eta_m x)).trans ((m_piece1_0 _ _ _ _ (x 3)).trans
      (hk _ _ (by show (y 3).val = 128 + (x 3).val; omega) (fun r => by show 0 + r.val = (y 2).val * 256 + r.val; omega)))
  · exact (congrArg _ (eta_m x)).trans ((m_piece0_1 _ _ _ _ _ _ (x 3)).trans
      (hk _ _ (by show (y 3).val = 0 + (x 3).val; omega) (fun r => by show 256 + r.val = (y 2).val * 256 + r.val; omega)))
  · exact (congrArg _ (eta_m x)).trans ((m_piece0_0 _ _ _ _ _ _ (x 3)).trans
      (hk _ _ (by show (y 3).val = 0 + (x 3).val; omega) (fun r => by show 0 + r.val = (y 2).val * 256 + r.val; omega)))

theorem final_q (c : Dev nD) : (dats m 0 c).arrAt 10 (cfgs 0).N = val_main_v87 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  refine (q_block m c t y).trans (congrArg _ ?_)
  have hp := places t
  unfold sq pos
  blk_ext [hp]

theorem final_k (c : Dev nD) : (dats m 0 c).arrAt 11 (cfgs 0).N = val_main_v90 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  refine (k_block m c t y).trans (congrArg _ ?_)
  have hp := places t
  unfold sq pos
  blk_ext [hp]

theorem final_v (c : Dev nD) : (dats m 0 c).arrAt 12 (cfgs 0).N = val_main_v93 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  refine (v_block m c t y).trans (congrArg _ ?_)
  have hp := places t
  unfold sq half
  blk_ext [hp]

theorem final_m (c : Dev nD) : (dats m 0 c).arrAt 13 (cfgs 0).N = val_main_v95 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  refine (m_block m c t y).trans (congrArg _ ?_)
  have hp := places t
  unfold sq row
  blk_ext [hp]

/-- Both run; from equal arguments they end with equal results. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (dats m 0 c).arrAt 10 (cfgs 0).N, fun c => (dats m 0 c).arrAt 11 (cfgs 0).N,
    fun c => (dats m 0 c).arrAt 12 (cfgs 0).N, fun c => (dats m 0 c).arrAt 13 (cfgs 0).N,
    Cert.Kernel5Ideal.Value.run_blocks (F := Ideal) m g, ?_⟩
  refine (θ_run (Cert.Reference5Ideal.defs (F := Ideal)) _ _).mono (fun r h c => ?_)
    (Cert.Reference5Ideal.Value.run (F := Ideal) m' g')
  obtain ⟨hq, hk, hv, hm, hrest⟩ := h c
  obtain ⟨h0, h1, h2⟩ := hargs c
  refine ⟨hq.trans ?_, hk.trans ?_, hv.trans ?_, hm.trans ?_, hrest⟩
  · refine Eq.trans ?_ (final_q m c).symm
    rw [← h0, ← h1, ← h2, val_main_v87_eq]
  · refine Eq.trans ?_ (final_k m c).symm
    rw [← h0, ← h1, ← h2, val_main_v90_eq]
  · refine Eq.trans ?_ (final_v m c).symm
    rw [← h0, ← h1, ← h2, val_main_v93_eq]
  · refine Eq.trans ?_ (final_m m c).symm
    rw [← h0, ← h1, ← h2, val_main_v95_eq]

end Cert.Proof.AttnProj

end
-- ==== Proof.TileScan.lean ====
/-
  The first program's running folds: sums and maxima along 256 lanes by doubling steps, two groups of 128 lanes, the second
  carrying the first one's last lane.
-/
module

public import proofs.«01_k».proof.Proof.Gen.KernelIdeal
public import Idealize.ShloMosaic.Lib.KernelVsHost
public import Idealize.ShloMosaic.Lib.Pointwise
public import Idealize.ShloMosaic.Lib.Pipeline.ValueKit

@[expose] public section

noncomputable section

namespace Cert.Proof.MlstmTile

open Idealize.ShloMosaic Idealize.ShloMosaic.TcCoe Idealize.SL.Sem Cert.KernelIdeal Cert.KernelIdeal.Gen

/-- One doubling step of the running sum. -/
def stAdd (n : BitVec 32) (x : FVec Ideal S8x128 .f32) : FVec Ideal S8x128 .f32 :=
  addf x (select (cmpi .sge (iota .tc S8x128 32 [1] iota_S8x128_d1_w32) (broadcast S8x128 n))
    (dynamicRotate 1 n none x rotates_S8x128_d1) (broadcast S8x128 (Scalar.ofBits (F := Ideal) .f32 0x00000000#32)))

/-- One doubling step of the running maximum. -/
def stMax (n : BitVec 32) (x : FVec Ideal S8x128 .f32) : FVec Ideal S8x128 .f32 :=
  maximumf x (select (cmpi .sge (iota .tc S8x128 32 [1] iota_S8x128_d1_w32) (broadcast S8x128 n))
    (dynamicRotate 1 n none x rotates_S8x128_d1) (broadcast S8x128 (Scalar.ofBits (F := Ideal) .f32 0xFF800000#32)))

theorem sel_stage (n : BitVec 32) (k : ℕ) (x : FVec Ideal S8x128 .f32) (z : EReal) (h : Fin 8) (t : Fin 128)
    (hn : n.toNat = k) (hk : k < 128) (hc : ∀ t : Fin 128, IntOp.cmpi .sge (BitVec.ofNat 32 t.val) n = if k ≤ t.val then 1#1 else 0#1) :
    select (cmpi .sge (iota .tc S8x128 32 [1] iota_S8x128_d1_w32) (broadcast S8x128 n))
      (dynamicRotate 1 n none x rotates_S8x128_d1) (broadcast S8x128 z) (ix2 h t)
      = if hkt : k ≤ t.val then x (ix2 h ⟨t.val - k, by omega⟩) else z := by
  have e : cmpi .sge (iota .tc S8x128 32 [1] iota_S8x128_d1_w32) (broadcast S8x128 n) (ix2 h t)
      = IntOp.cmpi .sge (BitVec.ofNat 32 t.val) n := by
    pointwise
  show Scalar.select (cmpi .sge (iota .tc S8x128 32 [1] iota_S8x128_d1_w32) (broadcast S8x128 n) (ix2 h t)) _ _ = _
  rw [e, hc t]
  by_cases c : k ≤ t.val
  · rw [if_pos c, dif_pos c]
    show dynamicRotate 1 n none x rotates_S8x128_d1 (ix2 h t) = _
    refine dynamicRotate_apply (1 : Fin 2) n x rotates_S8x128_d1 (ix2 h t) (ix2 h ⟨t.val - k, by omega⟩) ?_
    intro b
    match b with
    | ⟨0, _⟩ => rfl
    | ⟨1, _⟩ =>
      show t.val - k = (t.val + 128 - n.toNat % 128) % 128
      have := t.isLt
      rw [hn]
      omega
  · rw [if_neg c, dif_neg c]
    rfl

theorem sum_double (x y z : ℕ → EReal) (k : ℕ)
    (hy : ∀ t < 128, y t = ∑ s ∈ Finset.Ico (t + 1 - k) (t + 1), x s)
    (hz : ∀ t < 128, z t = y t + if k ≤ t then y (t - k) else 0) (t : ℕ) (ht : t < 128) :
    z t = ∑ s ∈ Finset.Ico (t + 1 - 2 * k) (t + 1), x s := by
  rw [hz t ht]
  by_cases c : k ≤ t
  · rw [if_pos c, hy t ht, hy (t - k) (by omega), add_comm]
    rw [show t - k + 1 - k = t + 1 - 2 * k by omega, show t - k + 1 = t + 1 - k by omega]
    exact Finset.sum_Ico_consecutive _ (by omega) (by omega)
  · rw [if_neg c, add_zero, hy t ht, show t + 1 - k = 0 by omega, show t + 1 - 2 * k = 0 by omega]

theorem sup_double (x y z : ℕ → EReal) (k : ℕ)
    (hy : ∀ t < 128, y t = (Finset.Ico (t + 1 - k) (t + 1)).sup x)
    (hz : ∀ t < 128, z t = y t ⊔ if k ≤ t then y (t - k) else ⊥) (t : ℕ) (ht : t < 128) :
    z t = (Finset.Ico (t + 1 - 2 * k) (t + 1)).sup x := by
  rw [hz t ht]
  by_cases c : k ≤ t
  · rw [if_pos c, hy t ht, hy (t - k) (by omega), sup_comm]
    rw [show t - k + 1 - k = t + 1 - 2 * k by omega, show t - k + 1 = t + 1 - k by omega]
    rw [← Finset.sup_union, Finset.Ico_union_Ico_eq_Ico (by omega) (by omega)]
  · rw [if_neg c, sup_bot_eq, hy t ht, show t + 1 - k = 0 by omega, show t + 1 - 2 * k = 0 by omega]

/-- A head's lanes as a sequence. -/
def lane (z : EReal) (x : FVec Ideal S8x128 .f32) (h : Fin 8) (s : ℕ) : EReal :=
  if hs : s < 128 then x (ix2 h ⟨s, hs⟩) else z

theorem lane_of_lt (z : EReal) (x : FVec Ideal S8x128 .f32) (h : Fin 8) (t : Fin 128) : lane z x h t.val = x (ix2 h t) := by
  unfold lane
  rw [dif_pos t.isLt]

theorem stAdd_lane (n : BitVec 32) (k : ℕ) (hn : n.toNat = k) (hk : k < 128)
    (hc : ∀ t : Fin 128, IntOp.cmpi .sge (BitVec.ofNat 32 t.val) n = if k ≤ t.val then 1#1 else 0#1)
    (x : FVec Ideal S8x128 .f32) (h : Fin 8) (t : ℕ) (ht : t < 128) :
    lane 0 (stAdd n x) h t = lane 0 x h t + if k ≤ t then lane 0 x h (t - k) else 0 := by
  have h1 := lane_of_lt 0 (stAdd n x) h ⟨t, ht⟩
  have h2 := lane_of_lt 0 x h ⟨t, ht⟩
  rw [h1, h2]
  show x (ix2 h ⟨t, ht⟩) + _ = _
  rw [sel_stage n k x _ h ⟨t, ht⟩ hn hk hc]
  by_cases c : k ≤ t
  · rw [dif_pos c, if_pos c]
    have h3 := lane_of_lt 0 x h ⟨t - k, by omega⟩
    rw [h3]
  · rw [dif_neg c, if_neg c]
    congr 1
    show Ideal.ofBits .f32 0x00000000#32 = 0
    simp

theorem stMax_lane (n : BitVec 32) (k : ℕ) (hn : n.toNat = k) (hk : k < 128)
    (hc : ∀ t : Fin 128, IntOp.cmpi .sge (BitVec.ofNat 32 t.val) n = if k ≤ t.val then 1#1 else 0#1)
    (x : FVec Ideal S8x128 .f32) (h : Fin 8) (t : ℕ) (ht : t < 128) :
    lane ⊥ (stMax n x) h t = lane ⊥ x h t ⊔ if k ≤ t then lane ⊥ x h (t - k) else ⊥ := by
  have h1 := lane_of_lt ⊥ (stMax n x) h ⟨t, ht⟩
  have h2 := lane_of_lt ⊥ x h ⟨t, ht⟩
  rw [h1, h2]
  show max (x (ix2 h ⟨t, ht⟩)) _ = _
  rw [sel_stage n k x _ h ⟨t, ht⟩ hn hk hc]
  by_cases c : k ≤ t
  · rw [dif_pos c, if_pos c]
    have h3 := lane_of_lt ⊥ x h ⟨t - k, by omega⟩
    rw [h3]
  · rw [dif_neg c, if_neg c]
    congr 1

/-- The running sum of one group of lanes. -/
def grAdd (x : FVec Ideal S8x128 .f32) : FVec Ideal S8x128 .f32 :=
  stAdd 64#32 (stAdd 32#32 (stAdd 16#32 (stAdd 8#32 (stAdd 4#32 (stAdd 2#32 (stAdd 1#32 x))))))

/-- The running maximum of one group of lanes. -/
def grMax (x : FVec Ideal S8x128 .f32) : FVec Ideal S8x128 .f32 :=
  stMax 64#32 (stMax 32#32 (stMax 16#32 (stMax 8#32 (stMax 4#32 (stMax 2#32 (stMax 1#32 x))))))

theorem grAdd_lane (x : FVec Ideal S8x128 .f32) (h : Fin 8) (t : ℕ) (ht : t < 128) :
    lane 0 (grAdd x) h t = ∑ s ∈ Finset.range (t + 1), lane 0 x h s := by
  have s0 : ∀ t < 128, lane 0 x h t = ∑ s ∈ Finset.Ico (t + 1 - 1) (t + 1), lane 0 x h s := fun t _ => by
    rw [Nat.add_sub_cancel, Nat.Ico_succ_singleton, Finset.sum_singleton]
  have s1 := sum_double _ _ _ 1 s0 (stAdd_lane 1#32 1 rfl (by omega) (by decide) x h)
  have s2 := sum_double _ _ _ 2 s1 (stAdd_lane 2#32 2 rfl (by omega) (by decide) _ h)
  have s3 := sum_double _ _ _ 4 s2 (stAdd_lane 4#32 4 rfl (by omega) (by decide) _ h)
  have s4 := sum_double _ _ _ 8 s3 (stAdd_lane 8#32 8 rfl (by omega) (by decide) _ h)
  have s5 := sum_double _ _ _ 16 s4 (stAdd_lane 16#32 16 rfl (by omega) (by decide) _ h)
  have s6 := sum_double _ _ _ 32 s5 (stAdd_lane 32#32 32 rfl (by omega) (by decide) _ h)
  have s7 := sum_double _ _ _ 64 s6 (stAdd_lane 64#32 64 rfl (by omega) (by decide) _ h) t ht
  rw [show t + 1 - 2 * 64 = 0 by omega, ← Finset.range_eq_Ico] at s7
  exact s7

theorem grMax_lane (x : FVec Ideal S8x128 .f32) (h : Fin 8) (t : ℕ) (ht : t < 128) :
    lane ⊥ (grMax x) h t = (Finset.range (t + 1)).sup (lane ⊥ x h) := by
  have s0 : ∀ t < 128, lane ⊥ x h t = (Finset.Ico (t + 1 - 1) (t + 1)).sup (lane ⊥ x h) := fun t _ => by
    rw [Nat.add_sub_cancel, Nat.Ico_succ_singleton, Finset.sup_singleton]
  have s1 := sup_double _ _ _ 1 s0 (stMax_lane 1#32 1 rfl (by omega) (by decide) x h)
  have s2 := sup_double _ _ _ 2 s1 (stMax_lane 2#32 2 rfl (by omega) (by decide) _ h)
  have s3 := sup_double _ _ _ 4 s2 (stMax_lane 4#32 4 rfl (by omega) (by decide) _ h)
  have s4 := sup_double _ _ _ 8 s3 (stMax_lane 8#32 8 rfl (by omega) (by decide) _ h)
  have s5 := sup_double _ _ _ 16 s4 (stMax_lane 16#32 16 rfl (by omega) (by decide) _ h)
  have s6 := sup_double _ _ _ 32 s5 (stMax_lane 32#32 32 rfl (by omega) (by decide) _ h)
  have s7 := sup_double _ _ _ 64 s6 (stMax_lane 64#32 64 rfl (by omega) (by decide) _ h) t ht
  rw [show t + 1 - 2 * 64 = 0 by omega, ← Finset.range_eq_Ico] at s7
  exact s7

/-- The running sum of 256 lanes. -/
def scAdd (x : FVec Ideal S8x256 .f32) : FVec Ideal S8x256 .f32 :=
  concatenate S8x256 1 [⟨S8x128, grAdd (extractStridedSlice S8x128 ![0, 0] x slices_S8x256_o0_0_S8x128)⟩,
    ⟨S8x128, addf (grAdd (extractStridedSlice S8x128 ![0, 128] x slices_S8x256_o0_128_S8x128))
      (broadcastTo S8x128 (extractStridedSlice S8x1 ![0, 127]
        (grAdd (extractStridedSlice S8x128 ![0, 0] x slices_S8x256_o0_0_S8x128)) slices_S8x128_o0_127_S8x1)
        broadcasts_S8x1_S8x128)⟩] concatenates_S8x128_S8x128_S8x256_d1

/-- The running maximum of 256 lanes. -/
def scMax (x : FVec Ideal S8x256 .f32) : FVec Ideal S8x256 .f32 :=
  concatenate S8x256 1 [⟨S8x128, grMax (extractStridedSlice S8x128 ![0, 0] x slices_S8x256_o0_0_S8x128)⟩,
    ⟨S8x128, maximumf (grMax (extractStridedSlice S8x128 ![0, 128] x slices_S8x256_o0_128_S8x128))
      (broadcastTo S8x128 (extractStridedSlice S8x1 ![0, 127]
        (grMax (extractStridedSlice S8x128 ![0, 0] x slices_S8x256_o0_0_S8x128)) slices_S8x128_o0_127_S8x1)
        broadcasts_S8x1_S8x128)⟩] concatenates_S8x128_S8x128_S8x256_d1

/-- A head's 256 lanes as a sequence. -/
def wide (z : EReal) (x : FVec Ideal S8x256 .f32) (h : Fin 8) (s : ℕ) : EReal :=
  if hs : s < 256 then x (ix2 h ⟨s, hs⟩) else z

theorem wide_of_lt (z : EReal) (x : FVec Ideal S8x256 .f32) (h : Fin 8) (t : Fin 256) : wide z x h t.val = x (ix2 h t) := by
  unfold wide
  rw [dif_pos t.isLt]

theorem lane_first (z : EReal) (x : FVec Ideal S8x256 .f32) (h : Fin 8) (s : ℕ) (hs : s < 128) :
    lane z (extractStridedSlice S8x128 ![0, 0] x slices_S8x256_o0_0_S8x128) h s = wide z x h s := by
  have h1 := lane_of_lt z (extractStridedSlice S8x128 ![0, 0] x slices_S8x256_o0_0_S8x128) h ⟨s, hs⟩
  have h2 := wide_of_lt z x h ⟨s, by omega⟩
  rw [h1, h2]
  pointwise

theorem lane_second (z : EReal) (x : FVec Ideal S8x256 .f32) (h : Fin 8) (s : ℕ) (hs : s < 128) :
    lane z (extractStridedSlice S8x128 ![0, 128] x slices_S8x256_o0_128_S8x128) h s = wide z x h (128 + s) := by
  have h1 := lane_of_lt z (extractStridedSlice S8x128 ![0, 128] x slices_S8x256_o0_128_S8x128) h ⟨s, hs⟩
  have h2 := wide_of_lt z x h ⟨128 + s, by omega⟩
  rw [h1, h2]
  pointwise

theorem scAdd_apply (x : FVec Ideal S8x256 .f32) (h : Fin 8) (t : Fin 256) :
    scAdd x (ix2 h t) = ∑ s ∈ Finset.range (t.val + 1), wide 0 x h s := by
  have ht := t.isLt
  have g1 : ∀ t : Fin 128, grAdd (extractStridedSlice S8x128 ![0, 0] x slices_S8x256_o0_0_S8x128) (ix2 h t)
      = ∑ s ∈ Finset.range (t.val + 1), wide 0 x h s := fun t => by
    refine (lane_of_lt 0 _ h t).symm.trans ?_
    rw [grAdd_lane _ h t.val t.isLt]
    exact Finset.sum_congr rfl fun s hs => lane_first 0 x h s (by have := Finset.mem_range.mp hs; omega)
  have g2 : ∀ t : Fin 128, grAdd (extractStridedSlice S8x128 ![0, 128] x slices_S8x256_o0_128_S8x128) (ix2 h t)
      = ∑ s ∈ Finset.range (t.val + 1), wide 0 x h (128 + s) := fun t => by
    refine (lane_of_lt 0 _ h t).symm.trans ?_
    rw [grAdd_lane _ h t.val t.isLt]
    exact Finset.sum_congr rfl fun s hs => lane_second 0 x h s (by have := Finset.mem_range.mp hs; omega)
  unfold scAdd
  generalize grAdd (extractStridedSlice S8x128 ![0, 0] x slices_S8x256_o0_0_S8x128) = A at g1 ⊢
  generalize grAdd (extractStridedSlice S8x128 ![0, 128] x slices_S8x256_o0_128_S8x128) = B at g2 ⊢
  pointwise
  by_cases c : t.val < 128
  · rw [dif_pos c]
    exact g1 ⟨t.val, c⟩
  · rw [dif_neg c]
    have e1 := g2 ⟨t.val - 128, by omega⟩
    have e2 := g1 ⟨127, by omega⟩
    refine (congrArg₂ (· + ·) e1 e2).trans ?_
    show (∑ s ∈ Finset.range (t.val - 128 + 1), wide 0 x h (128 + s)) + (∑ s ∈ Finset.range (127 + 1), wide 0 x h s) = _
    rw [add_comm, ← Finset.sum_range_add]
    rw [show 127 + 1 + (t.val - 128 + 1) = t.val + 1 by omega]

theorem sup_range_add (f : ℕ → EReal) (n m : ℕ) :
    (Finset.range (n + m)).sup f = (Finset.range n).sup f ⊔ (Finset.range m).sup fun s => f (n + s) := by
  induction m with
  | zero => simp
  | succ m ih =>
    rw [← Nat.add_assoc, Finset.range_add_one, Finset.sup_insert, ih, Finset.range_add_one, Finset.sup_insert]
    exact sup_left_comm _ _ _

theorem scMax_apply (x : FVec Ideal S8x256 .f32) (h : Fin 8) (t : Fin 256) :
    scMax x (ix2 h t) = (Finset.range (t.val + 1)).sup (wide ⊥ x h) := by
  have ht := t.isLt
  have g1 : ∀ t : Fin 128, grMax (extractStridedSlice S8x128 ![0, 0] x slices_S8x256_o0_0_S8x128) (ix2 h t)
      = (Finset.range (t.val + 1)).sup (wide ⊥ x h) := fun t => by
    refine (lane_of_lt ⊥ _ h t).symm.trans ?_
    rw [grMax_lane _ h t.val t.isLt]
    exact Finset.sup_congr rfl fun s hs => lane_first ⊥ x h s (by have := Finset.mem_range.mp hs; omega)
  have g2 : ∀ t : Fin 128, grMax (extractStridedSlice S8x128 ![0, 128] x slices_S8x256_o0_128_S8x128) (ix2 h t)
      = (Finset.range (t.val + 1)).sup fun s => wide ⊥ x h (128 + s) := fun t => by
    refine (lane_of_lt ⊥ _ h t).symm.trans ?_
    rw [grMax_lane _ h t.val t.isLt]
    exact Finset.sup_congr rfl fun s hs => lane_second ⊥ x h s (by have := Finset.mem_range.mp hs; omega)
  unfold scMax
  generalize grMax (extractStridedSlice S8x128 ![0, 0] x slices_S8x256_o0_0_S8x128) = A at g1 ⊢
  generalize grMax (extractStridedSlice S8x128 ![0, 128] x slices_S8x256_o0_128_S8x128) = B at g2 ⊢
  pointwise
  by_cases c : t.val < 128
  · rw [dif_pos c]
    exact g1 ⟨t.val, c⟩
  · rw [dif_neg c]
    have e1 := g2 ⟨t.val - 128, by omega⟩
    have e2 := g1 ⟨127, by omega⟩
    refine (congrArg₂ max e1 e2).trans ?_
    show ((Finset.range (t.val - 128 + 1)).sup fun s => wide ⊥ x h (128 + s)) ⊔ ((Finset.range (127 + 1)).sup (wide ⊥ x h)) = _
    rw [sup_comm, ← sup_range_add]
    rw [show 127 + 1 + (t.val - 128 + 1) = t.val + 1 by omega]

end Cert.Proof.MlstmTile

end
-- ==== Proof.TilePiece.lean ====
/-
  The first program's first chunk: what the eight heads store, as one function of the head's number.
-/
module

public import proofs.«01_k».proof.Proof.TileScan
public import proofs.«01_k».proof.Proof.Gen.KernelIdeal.Frame

@[expose] public section

noncomputable section

namespace Cert.Proof.MlstmTile

open Idealize.ShloMosaic Idealize.ShloMosaic.TcCoe Idealize.SL.Sem Cert.KernelIdeal Cert.KernelIdeal.Gen

/-- The input gates of the chunk. -/
def gI (G : Vec Ideal S1x16x256 .f32) : FVec Ideal S8x256 .f32 :=
  extractStridedSlice S8x256 ![0, 0] (shapeCast S16x256 G shapeCasts_S1x16x256_S16x256) slices_S16x256_o0_0_S8x256

/-- The forget gates of the chunk. -/
def gF (G : Vec Ideal S1x16x256 .f32) : FVec Ideal S8x256 .f32 :=
  extractStridedSlice S8x256 ![8, 0] (shapeCast S16x256 G shapeCasts_S1x16x256_S16x256) slices_S16x256_o8_0_S8x256

/-- The logarithms of the forget gates. -/
def gL (G : Vec Ideal S1x16x256 .f32) : FVec Ideal S8x256 .f32 :=
  subf (minimumf (gF G) (broadcast S8x256 (Scalar.ofBits (F := Ideal) .f32 0x00000000#32)))
    (log1p (exp (subf (broadcast S8x256 (Scalar.ofBits (F := Ideal) .f32 0x00000000#32)) (absf (gF G)))))

/-- Their running sum. -/
def gB (G : Vec Ideal S1x16x256 .f32) : FVec Ideal S8x256 .f32 := scAdd (gL G)

/-- The input gates against it. -/
def gU (G : Vec Ideal S1x16x256 .f32) : FVec Ideal S8x256 .f32 := subf (gI G) (gB G)

/-- The running maximum, from the carried one. -/
def gM (G : Vec Ideal S1x16x256 .f32) (m0 : Vec Ideal S8x1 .f32) : FVec Ideal S8x256 .f32 :=
  maximumf (scMax (gU G)) (broadcastTo S8x256 m0 broadcasts_S8x1_S8x256)

/-- The carried state's factor. -/
def gN (G : Vec Ideal S1x16x256 .f32) (m0 : Vec Ideal S8x1 .f32) : FVec Ideal S8x256 .f32 :=
  exp (subf (broadcastTo S8x256 m0 broadcasts_S8x1_S8x256) (gM G m0))

/-- The least denominator. -/
def gE (G : Vec Ideal S1x16x256 .f32) (m0 : Vec Ideal S8x1 .f32) : FVec Ideal S8x256 .f32 :=
  exp (subf (broadcast S8x256 (Scalar.ofBits (F := Ideal) .f32 0x00000000#32)) (addf (gB G) (gM G m0)))

/-- The running maxima in powers of two. -/
def gM2 (G : Vec Ideal S1x16x256 .f32) (m0 : Vec Ideal S8x1 .f32) : FVec Ideal S8x256 .f32 :=
  mulf (gM G m0) (broadcast S8x256 (Named.named (F := Ideal) (φ := .f32) κ "log2e" 0x3FB8AA3B#32))

/-- The rows of ones under the values: one row of ones, fifteen of zeros. -/
def ones : FVec Ideal S16x256 .bf16 :=
  truncf .bf16 (select (cmpi .eq (iota .tc S16x256 32 [0] iota_S16x256_d0_w32) (broadcast S16x256 0#32))
    (broadcast S16x256 (Scalar.ofBits (F := Ideal) .f32 0x3F800000#32))
    (broadcast S16x256 (Scalar.ofBits (F := Ideal) .f32 0x00000000#32))) bitsLt_bf16_f32

/-- A head's queries, the other head of its pair masked. -/
def hQ (Q : Vec Ideal S1x128x256 .bf16) (lo hi : BitVec 32) : FVec Ideal S128x256 .bf16 :=
  select (andi (cmpi .sge (iota .tc S128x256 32 [0] iota_S128x256_d0_w32) (broadcast S128x256 lo))
      (cmpi .slt (iota .tc S128x256 32 [0] iota_S128x256_d0_w32) (broadcast S128x256 hi)))
    (shapeCast S128x256 Q shapeCasts_S1x128x256_S128x256) (broadcast S128x256 (Scalar.ofBits (F := Ideal) .bf16 0x0000#16))

/-- A head's decay factors. -/
def hE (U : FVec Ideal S256x128 .f32) (M : FVec Ideal S8x256 .f32) (h : ℕ) (p1 : S256x128.Slices ![0, h] S256x1)
    (p2 : S8x256.Slices ![h, 0] S1x256) : FVec Ideal S256x256 .f32 :=
  exp2 (select (cmpi .sle (iota .tc S256x256 32 [0] iota_S256x256_d0_w32) (iota .tc S256x256 32 [1] iota_S256x256_d1_w32))
    (subf (broadcastTo S256x256 (extractStridedSlice S256x1 ![0, h] U p1) broadcasts_S256x1_S256x256)
      (broadcastTo S256x256 (extractStridedSlice S1x256 ![h, 0] M p2) broadcasts_S1x256_S256x256))
    (broadcast S256x256 (Scalar.ofBits (F := Ideal) .f32 0xFF800000#32)))

/-- A head's numerators, its denominator under them. -/
def hR (N : FVec Ideal S8x256 .f32) (E : FVec Ideal S256x256 .f32) (st : Vec Ideal S1x144x128 .f32)
    (K : Vec Ideal S1x256x128 .bf16) (Q : Vec Ideal S1x128x256 .bf16) (V : Vec Ideal S1x128x256 .bf16) (lo hi : BitVec 32) (h : ℕ)
    (p2 : S8x256.Slices ![h, 0] S1x256) : FVec Ideal S144x256 .f32 :=
  addf (mulf (broadcastTo S144x256 (extractStridedSlice S1x256 ![h, 0] N p2) broadcasts_S1x256_S144x256)
      (matmul dot_S144x128_S128x256_S144x256_1_0_0_1_n_n none
        (truncf .bf16 (shapeCast S144x128 st shapeCasts_S1x144x128_S144x128 : FVec Ideal S144x128 .f32) bitsLt_bf16_f32) (hQ Q lo hi)
        (constant S144x256 .f32 0x00000000#32)))
    (matmul dot_S144x256_S256x256_S144x256_1_0_0_1_n_n none
      (concatenate S144x256 0 [⟨S128x256, (shapeCast S128x256 V shapeCasts_S1x128x256_S128x256 : FVec Ideal S128x256 .bf16)⟩, ⟨S16x256, ones⟩]
        concatenates_S128x256_S16x256_S144x256_d0 : FVec Ideal S144x256 .bf16)
      (truncf .bf16 (mulf (matmul dot_S256x128_S128x256_S256x256_1_0_0_1_n_n none
        (shapeCast S256x128 K shapeCasts_S1x256x128_S256x128 : FVec Ideal S256x128 .bf16) (hQ Q lo hi) (constant S256x256 .f32 0x00000000#32))
        E) bitsLt_bf16_f32)
      (constant S144x256 .f32 0x00000000#32))

/-- A head's normalised values before the norm. -/
def hH (R : FVec Ideal S144x256 .f32) (E : FVec Ideal S8x256 .f32) (h : ℕ) (p2 : S8x256.Slices ![h, 0] S1x256) :
    FVec Ideal S128x256 .f32 :=
  divf (extractStridedSlice S128x256 ![0, 0] R slices_S144x256_o0_0_S128x256)
    (broadcastTo S128x256 (maximumf (absf (extractStridedSlice S1x256 ![128, 0] R slices_S144x256_o128_0_S1x256))
      (extractStridedSlice S1x256 ![h, 0] E p2)) broadcasts_S1x256_S128x256)

/-- What a head stores. -/
def hY (H : FVec Ideal S128x256 .f32) (W : Vec Ideal S128x128 .f32) (O : Vec Ideal S1x128x256 .bf16) : Vec Ideal S1x256x128 .bf16 :=
  shapeCast S1x256x128 (truncf .bf16 (transpose S256x128 [1, 0]
    (mulf (extf .f32 (shapeCast S128x256 O shapeCasts_S1x128x256_S128x256 : FVec Ideal S128x256 .bf16) bitsLt_bf16_f32)
      (mulf (mulf H (broadcastTo S128x256 (rsqrt (addf (divf
          (shapeCast S1x256 (multiReduction .add [0] S256 (mulf H H) 0x00000000#32 reduces_S128x256_S256 (.inl rfl) rfl)
            shapeCasts_S256_S1x256) (broadcast S1x256 (Scalar.ofBits (F := Ideal) .f32 0x43000000#32)))
          (broadcast S1x256 (Scalar.ofBits (F := Ideal) .f32 0x358637BD#32)))) broadcasts_S1x256_S128x256))
        (concatenate S128x256 1 [⟨S128x128, shapeCast S128x128 W shapeCasts_S128x128_S128x128⟩,
          ⟨S128x128, shapeCast S128x128 W shapeCasts_S128x128_S128x128⟩] concatenates_S128x128_S128x128_S128x256_d1)))
    transposes_S128x256_p1_0_S256x128) bitsLt_bf16_f32) shapeCasts_S256x128_S1x256x128

end Cert.Proof.MlstmTile

end
-- ==== Proof.TileGates.lean ====
/-
  The first program's first chunk: the gates' sums and maxima as the program names them.
-/
module

public import proofs.«01_k».proof.Proof.TilePiece

@[expose] public section

noncomputable section

namespace Cert.Proof.MlstmTile

open Idealize.ShloMosaic Idealize.ShloMosaic.TcCoe Idealize.SL.Sem Cert.KernelIdeal Cert.KernelIdeal.Gen

/-- The chunk of the gates as loaded. -/
abbrev ldG (arg6 : Memref sig .tc .vmem S1x16x2048 .f32) (harg6 : arg6.IsWhole) (x4 : Vec Ideal S1x16x2048 .f32) : Vec Ideal S1x16x256 .f32 :=
  View.readAt (Elt Ideal) arg6.view (Rect.unit (s := S1x16x2048) ![0, 0, 0] S1x16x256.size inb_S1x16x2048_S1x16x256_0_0_0).toLoadRect (harg6.unread x4)

theorem a_v16 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v16 (F := Ideal) c arg6 harg6 x4) = gI (ldG arg6 harg6 x4) := rfl

theorem a_v25 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v25 (F := Ideal) c arg6 harg6 x4) = gL (ldG arg6 harg6 x4) := rfl

theorem a_v33 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v33 (F := Ideal) c arg6 harg6 x4) = stAdd 1#32 (kernelRun0_A.sl.v27 (F := Ideal) c arg6 harg6 x4) := rfl

theorem a_v39 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v39 (F := Ideal) c arg6 harg6 x4) = stAdd 2#32 (kernelRun0_A.sl.v33 (F := Ideal) c arg6 harg6 x4) := rfl

theorem a_v45 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v45 (F := Ideal) c arg6 harg6 x4) = stAdd 4#32 (kernelRun0_A.sl.v39 (F := Ideal) c arg6 harg6 x4) := rfl

theorem a_v51 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v51 (F := Ideal) c arg6 harg6 x4) = stAdd 8#32 (kernelRun0_A.sl.v45 (F := Ideal) c arg6 harg6 x4) := rfl

theorem a_v57 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v57 (F := Ideal) c arg6 harg6 x4) = stAdd 16#32 (kernelRun0_A.sl.v51 (F := Ideal) c arg6 harg6 x4) := rfl

theorem a_v63 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v63 (F := Ideal) c arg6 harg6 x4) = stAdd 32#32 (kernelRun0_A.sl.v57 (F := Ideal) c arg6 harg6 x4) := rfl

theorem a_v69 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v69 (F := Ideal) c arg6 harg6 x4) = stAdd 64#32 (kernelRun0_A.sl.v63 (F := Ideal) c arg6 harg6 x4) := rfl

theorem a_add1 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v69 (F := Ideal) c arg6 harg6 x4) = grAdd (kernelRun0_A.sl.v27 (F := Ideal) c arg6 harg6 x4) := by
  rw [a_v69 c arg6 harg6 arg10 x4, a_v63 c arg6 harg6 arg10 x4, a_v57 c arg6 harg6 arg10 x4, a_v51 c arg6 harg6 arg10 x4, a_v45 c arg6 harg6 arg10 x4, a_v39 c arg6 harg6 arg10 x4, a_v33 c arg6 harg6 arg10 x4]
  rfl

theorem a_v77 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v77 (F := Ideal) c arg6 harg6 x4) = stAdd 1#32 (kernelRun0_A.sl.v71 (F := Ideal) c arg6 harg6 x4) := rfl

theorem a_v83 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v83 (F := Ideal) c arg6 harg6 x4) = stAdd 2#32 (kernelRun0_A.sl.v77 (F := Ideal) c arg6 harg6 x4) := rfl

theorem a_v89 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v89 (F := Ideal) c arg6 harg6 x4) = stAdd 4#32 (kernelRun0_A.sl.v83 (F := Ideal) c arg6 harg6 x4) := rfl

theorem a_v95 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v95 (F := Ideal) c arg6 harg6 x4) = stAdd 8#32 (kernelRun0_A.sl.v89 (F := Ideal) c arg6 harg6 x4) := rfl

theorem a_v101 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v101 (F := Ideal) c arg6 harg6 x4) = stAdd 16#32 (kernelRun0_A.sl.v95 (F := Ideal) c arg6 harg6 x4) := rfl

theorem a_v107 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v107 (F := Ideal) c arg6 harg6 x4) = stAdd 32#32 (kernelRun0_A.sl.v101 (F := Ideal) c arg6 harg6 x4) := rfl

theorem a_v113 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v113 (F := Ideal) c arg6 harg6 x4) = stAdd 64#32 (kernelRun0_A.sl.v107 (F := Ideal) c arg6 harg6 x4) := rfl

theorem a_add2 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v113 (F := Ideal) c arg6 harg6 x4) = grAdd (kernelRun0_A.sl.v71 (F := Ideal) c arg6 harg6 x4) := by
  rw [a_v113 c arg6 harg6 arg10 x4, a_v107 c arg6 harg6 arg10 x4, a_v101 c arg6 harg6 arg10 x4, a_v95 c arg6 harg6 arg10 x4, a_v89 c arg6 harg6 arg10 x4, a_v83 c arg6 harg6 arg10 x4, a_v77 c arg6 harg6 arg10 x4]
  rfl

theorem a_v126 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v126 (F := Ideal) c arg6 harg6 x4) = stMax 1#32 (kernelRun0_A.sl.v120 (F := Ideal) c arg6 harg6 x4) := rfl

theorem a_v132 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v132 (F := Ideal) c arg6 harg6 x4) = stMax 2#32 (kernelRun0_A.sl.v126 (F := Ideal) c arg6 harg6 x4) := rfl

theorem a_v138 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v138 (F := Ideal) c arg6 harg6 x4) = stMax 4#32 (kernelRun0_A.sl.v132 (F := Ideal) c arg6 harg6 x4) := rfl

theorem a_v144 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v144 (F := Ideal) c arg6 harg6 x4) = stMax 8#32 (kernelRun0_A.sl.v138 (F := Ideal) c arg6 harg6 x4) := rfl

theorem a_v150 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v150 (F := Ideal) c arg6 harg6 x4) = stMax 16#32 (kernelRun0_A.sl.v144 (F := Ideal) c arg6 harg6 x4) := rfl

theorem a_v156 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v156 (F := Ideal) c arg6 harg6 x4) = stMax 32#32 (kernelRun0_A.sl.v150 (F := Ideal) c arg6 harg6 x4) := rfl

theorem a_v162 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v162 (F := Ideal) c arg6 harg6 x4) = stMax 64#32 (kernelRun0_A.sl.v156 (F := Ideal) c arg6 harg6 x4) := rfl

theorem a_max1 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v162 (F := Ideal) c arg6 harg6 x4) = grMax (kernelRun0_A.sl.v120 (F := Ideal) c arg6 harg6 x4) := by
  rw [a_v162 c arg6 harg6 arg10 x4, a_v156 c arg6 harg6 arg10 x4, a_v150 c arg6 harg6 arg10 x4, a_v144 c arg6 harg6 arg10 x4, a_v138 c arg6 harg6 arg10 x4, a_v132 c arg6 harg6 arg10 x4, a_v126 c arg6 harg6 arg10 x4]
  rfl

theorem a_v116 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v116 (F := Ideal) c arg6 harg6 x4) = gB (ldG arg6 harg6 x4) := by
  have e1 := a_add1 c arg6 harg6 arg10 x4
  have e2 := a_add2 c arg6 harg6 arg10 x4
  have e3 : (kernelRun0_A.sl.v116 (F := Ideal) c arg6 harg6 x4) = concatenate S8x256 1 [⟨S8x128, (kernelRun0_A.sl.v69 (F := Ideal) c arg6 harg6 x4)⟩, ⟨S8x128, addf (kernelRun0_A.sl.v113 (F := Ideal) c arg6 harg6 x4) (broadcastTo S8x128 (extractStridedSlice S8x1 ![0, 127] (kernelRun0_A.sl.v69 (F := Ideal) c arg6 harg6 x4) slices_S8x128_o0_127_S8x1) broadcasts_S8x1_S8x128)⟩] concatenates_S8x128_S8x128_S8x256_d1 := rfl
  have e4 : (kernelRun0_A.sl.v27 (F := Ideal) c arg6 harg6 x4) = extractStridedSlice S8x128 ![0, 0] (kernelRun0_A.sl.v25 (F := Ideal) c arg6 harg6 x4) slices_S8x256_o0_0_S8x128 := rfl
  have e5 : (kernelRun0_A.sl.v71 (F := Ideal) c arg6 harg6 x4) = extractStridedSlice S8x128 ![0, 128] (kernelRun0_A.sl.v25 (F := Ideal) c arg6 harg6 x4) slices_S8x256_o0_128_S8x128 := rfl
  rw [e3, e1, e2, e4, e5, a_v25 c arg6 harg6 arg10 x4]
  rfl

theorem a_v117 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v117 (F := Ideal) c arg6 harg6 x4) = gU (ldG arg6 harg6 x4) := by
  have e : (kernelRun0_A.sl.v117 (F := Ideal) c arg6 harg6 x4) = subf (kernelRun0_A.sl.v16 (F := Ideal) c arg6 harg6 x4) (kernelRun0_A.sl.v116 (F := Ideal) c arg6 harg6 x4) := rfl
  rw [e, a_v16 c arg6 harg6 arg10 x4, a_v116 c arg6 harg6 arg10 x4]
  rfl

theorem a_v170 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v170 (F := Ideal) c arg6 harg6 x4) = stMax 1#32 (kernelRun0_A.sl.v164 (F := Ideal) c arg6 harg6 x4) := rfl

theorem a_v176 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v176 (F := Ideal) c arg6 harg6 x4) = stMax 2#32 (kernelRun0_A.sl.v170 (F := Ideal) c arg6 harg6 x4) := rfl

theorem a_v182 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v182 (F := Ideal) c arg6 harg6 x4) = stMax 4#32 (kernelRun0_A.sl.v176 (F := Ideal) c arg6 harg6 x4) := rfl

theorem a_v188 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v188 (F := Ideal) c arg6 harg6 x4) = stMax 8#32 (kernelRun0_A.sl.v182 (F := Ideal) c arg6 harg6 x4) := rfl

theorem a_v194 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v194 (F := Ideal) c arg6 harg6 x4) = stMax 16#32 (kernelRun0_A.sl.v188 (F := Ideal) c arg6 harg6 x4) := rfl

theorem a_v200 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.v200 (F := Ideal) c arg6 harg6 x4) = stMax 32#32 (kernelRun0_A.sl.v194 (F := Ideal) c arg6 harg6 x4) := rfl

theorem a_m (c : Dev nD) (arg6 : Memref sig .tc .vmem S1x16x2048 .f32) (harg6 : arg6.IsWhole) (arg10 : Memref sig .tc .vmem S8x128 .f32)
    (x4 : Vec Ideal S1x16x2048 .f32) :
    k0_pay25 (F := Ideal) (kernelRun0_A.sl.v118 (F := Ideal) c arg10) (kernelRun0_A.sl.v162 (F := Ideal) c arg6 harg6 x4) (kernelRun0_A.sl.v163 (F := Ideal) c arg6 harg6 x4) (kernelRun0_A.sl.v200 (F := Ideal) c arg6 harg6 x4) (cmpi .sge (kernelRun0_A.sl.v26) (kernelRun0_A.sl.v64)) = gM (ldG arg6 harg6 x4) (kernelRun0_A.sl.v118 (F := Ideal) c arg10) := by
  have e3 : k0_pay25 (F := Ideal) (kernelRun0_A.sl.v118 (F := Ideal) c arg10) (kernelRun0_A.sl.v162 (F := Ideal) c arg6 harg6 x4) (kernelRun0_A.sl.v163 (F := Ideal) c arg6 harg6 x4) (kernelRun0_A.sl.v200 (F := Ideal) c arg6 harg6 x4) (cmpi .sge (kernelRun0_A.sl.v26) (kernelRun0_A.sl.v64)) = maximumf (concatenate S8x256 1 [⟨S8x128, (kernelRun0_A.sl.v162 (F := Ideal) c arg6 harg6 x4)⟩, ⟨S8x128, maximumf (stMax 64#32 (kernelRun0_A.sl.v200 (F := Ideal) c arg6 harg6 x4)) (broadcastTo S8x128 (extractStridedSlice S8x1 ![0, 127] (kernelRun0_A.sl.v162 (F := Ideal) c arg6 harg6 x4) slices_S8x128_o0_127_S8x1) broadcasts_S8x1_S8x128)⟩] concatenates_S8x128_S8x128_S8x256_d1) (broadcastTo S8x256 (kernelRun0_A.sl.v118 (F := Ideal) c arg10) broadcasts_S8x1_S8x256) := rfl
  have e4 : (kernelRun0_A.sl.v120 (F := Ideal) c arg6 harg6 x4) = extractStridedSlice S8x128 ![0, 0] (kernelRun0_A.sl.v117 (F := Ideal) c arg6 harg6 x4) slices_S8x256_o0_0_S8x128 := rfl
  have e5 : (kernelRun0_A.sl.v164 (F := Ideal) c arg6 harg6 x4) = extractStridedSlice S8x128 ![0, 128] (kernelRun0_A.sl.v117 (F := Ideal) c arg6 harg6 x4) slices_S8x256_o0_128_S8x128 := rfl
  rw [e3, a_max1 c arg6 harg6 arg10 x4, a_v200 c arg6 harg6 arg10 x4, a_v194 c arg6 harg6 arg10 x4, a_v188 c arg6 harg6 arg10 x4, a_v182 c arg6 harg6 arg10 x4, a_v176 c arg6 harg6 arg10 x4, a_v170 c arg6 harg6 arg10 x4, e4, e5, a_v117 c arg6 harg6 arg10 x4]
  rfl

theorem a_r (c : Dev nD) (arg6 : Memref sig .tc .vmem S1x16x2048 .f32) (harg6 : arg6.IsWhole) (arg10 : Memref sig .tc .vmem S8x128 .f32)
    (x4 : Vec Ideal S1x16x2048 .f32) :
    (kernelRun0_A.sl.r (F := Ideal) c arg6 harg6 arg10 x4) = gN (ldG arg6 harg6 x4) (kernelRun0_A.sl.v118 (F := Ideal) c arg10) := by
  have e : (kernelRun0_A.sl.r (F := Ideal) c arg6 harg6 arg10 x4) = exp (subf (broadcastTo S8x256 (kernelRun0_A.sl.v118 (F := Ideal) c arg10) broadcasts_S8x1_S8x256) (k0_pay25 (F := Ideal) (kernelRun0_A.sl.v118 (F := Ideal) c arg10) (kernelRun0_A.sl.v162 (F := Ideal) c arg6 harg6 x4) (kernelRun0_A.sl.v163 (F := Ideal) c arg6 harg6 x4) (kernelRun0_A.sl.v200 (F := Ideal) c arg6 harg6 x4) (cmpi .sge (kernelRun0_A.sl.v26) (kernelRun0_A.sl.v64)))) := rfl
  rw [e, a_m c arg6 harg6 arg10 x4]
  rfl

theorem a_r_1 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.r_1 (F := Ideal) c arg6 harg6 arg10 x4) = gE (ldG arg6 harg6 x4) (kernelRun0_A.sl.v118 (F := Ideal) c arg10) := by
  have e : (kernelRun0_A.sl.r_1 (F := Ideal) c arg6 harg6 arg10 x4) = exp (subf (broadcast S8x256 (Scalar.ofBits (F := Ideal) .f32 0x00000000#32)) (addf (kernelRun0_A.sl.v116 (F := Ideal) c arg6 harg6 x4) (k0_pay25 (F := Ideal) (kernelRun0_A.sl.v118 (F := Ideal) c arg10) (kernelRun0_A.sl.v162 (F := Ideal) c arg6 harg6 x4) (kernelRun0_A.sl.v163 (F := Ideal) c arg6 harg6 x4) (kernelRun0_A.sl.v200 (F := Ideal) c arg6 harg6 x4) (cmpi .sge (kernelRun0_A.sl.v26) (kernelRun0_A.sl.v64))))) := rfl
  rw [e, a_m c arg6 harg6 arg10 x4, a_v116 c arg6 harg6 arg10 x4]
  rfl

theorem a_r_5 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.r_5 (F := Ideal) c arg6 harg6 arg10 x4) = gM2 (ldG arg6 harg6 x4) (kernelRun0_A.sl.v118 (F := Ideal) c arg10) := by
  have e : (kernelRun0_A.sl.r_5 (F := Ideal) c arg6 harg6 arg10 x4) = mulf (k0_pay25 (F := Ideal) (kernelRun0_A.sl.v118 (F := Ideal) c arg10) (kernelRun0_A.sl.v162 (F := Ideal) c arg6 harg6 x4) (kernelRun0_A.sl.v163 (F := Ideal) c arg6 harg6 x4) (kernelRun0_A.sl.v200 (F := Ideal) c arg6 harg6 x4) (cmpi .sge (kernelRun0_A.sl.v26) (kernelRun0_A.sl.v64))) (broadcast S8x256 (Named.named (F := Ideal) (φ := .f32) κ "log2e" 0x3FB8AA3B#32)) := rfl
  rw [e, a_m c arg6 harg6 arg10 x4]
  rfl

theorem a_r_4 (c : Dev nD) (arg6 : Memref sig .tc .vmem S1x16x2048 .f32) (harg6 : arg6.IsWhole) (arg10 : Memref sig .tc .vmem S8x128 .f32)
    (x4 : Vec Ideal S1x16x2048 .f32) :
    (kernelRun0_A.sl.r_4 (F := Ideal) c arg6 harg6 x4) = k0_pay32 (gU (ldG arg6 harg6 x4)) := by
  have e : (kernelRun0_A.sl.r_4 (F := Ideal) c arg6 harg6 x4) = k0_pay32 (kernelRun0_A.sl.v117 (F := Ideal) c arg6 harg6 x4) := rfl
  rw [e, a_v117 c arg6 harg6 arg10 x4]

end Cert.Proof.MlstmTile

end
-- ==== Proof.TileHeads.lean ====
/-
  The first program's first chunk: the eight stores as the program names them.
-/
module

public import proofs.«01_k».proof.Proof.TileGates

@[expose] public section

noncomputable section

namespace Cert.Proof.MlstmTile

open Idealize.ShloMosaic Idealize.ShloMosaic.TcCoe Idealize.SL.Sem Cert.KernelIdeal Cert.KernelIdeal.Gen

theorem piece0 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v302 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 0 slices_S256x128_o0_0_S256x1 slices_S8x256_o0_0_S1x256)
          (kernelRun0_A.sl.v262 (F := Ideal) c arg9)
          (View.readAt (Elt Ideal) arg3.view (Rect.unit (s := S1x2048x512) ![0, 0, 0] S1x256x128.size inb_S1x2048x512_S1x256x128_0_0_0).toLoadRect (harg3.unread x1))
          (View.readAt (Elt Ideal) arg2.view (Rect.unit (s := S1x512x2048) ![0, 0, 0] S1x128x256.size inb_S1x512x2048_S1x128x256_0_0_0).toLoadRect (harg2.unread x0))
          (View.readAt (Elt Ideal) arg4.view (Rect.unit (s := S1x1024x2048) ![0, 0, 0] S1x128x256.size inb_S1x1024x2048_S1x128x256_0_0_0).toLoadRect (harg4.unread x2))
          0#32 64#32 0 slices_S8x256_o0_0_S1x256) (gE (ldG arg6 harg6 x4) (kernelRun0_A.sl.v118 (F := Ideal) c arg10)) 0 slices_S8x256_o0_0_S1x256)
        (View.readAt (Elt Ideal) arg7.view (Rect.unit (s := S1024x128) ![0, 0] S128x128.size inb_S1024x128_S128x128_0_0).toLoadRect (harg7.unread x5))
        (View.readAt (Elt Ideal) arg5.view (Rect.unit (s := S1x1024x2048) ![0, 0, 0] S1x128x256.size inb_S1x1024x2048_S1x128x256_0_0_0).toLoadRect (harg5.unread x3)) := by
  have e1 : (kernelRun0_A.sl.v302 (F := Ideal) c arg2 harg2 arg3 harg3 arg4 harg4 arg5 harg5 arg6 harg6 arg7 harg7 arg9 arg10 x0 x1 x2 x3 x4 x5) = hY (kernelRun0_A.sl.v279 (F := Ideal) c arg2 harg2 arg3 harg3 arg4 harg4 arg6 harg6 arg9 arg10 x0 x1 x2 x4)
      (View.readAt (Elt Ideal) arg7.view (Rect.unit (s := S1024x128) ![0, 0] S128x128.size inb_S1024x128_S128x128_0_0).toLoadRect (harg7.unread x5))
      (View.readAt (Elt Ideal) arg5.view (Rect.unit (s := S1x1024x2048) ![0, 0, 0] S1x128x256.size inb_S1x1024x2048_S1x128x256_0_0_0).toLoadRect (harg5.unread x3)) := rfl
  have e2 : (kernelRun0_A.sl.v279 (F := Ideal) c arg2 harg2 arg3 harg3 arg4 harg4 arg6 harg6 arg9 arg10 x0 x1 x2 x4) = hH (kernelRun0_A.sl.v272 (F := Ideal) c arg2 harg2 arg3 harg3 arg4 harg4 arg6 harg6 arg9 arg10 x0 x1 x2 x4) (kernelRun0_A.sl.r_1 (F := Ideal) c arg6 harg6 arg10 x4) 0 slices_S8x256_o0_0_S1x256 := rfl
  have e3 : (kernelRun0_A.sl.v272 (F := Ideal) c arg2 harg2 arg3 harg3 arg4 harg4 arg6 harg6 arg9 arg10 x0 x1 x2 x4) = hR (kernelRun0_A.sl.r (F := Ideal) c arg6 harg6 arg10 x4) (kernelRun0_A.sl.v258 (F := Ideal) c arg6 harg6 arg10 x4) (kernelRun0_A.sl.v262 (F := Ideal) c arg9)
      (View.readAt (Elt Ideal) arg3.view (Rect.unit (s := S1x2048x512) ![0, 0, 0] S1x256x128.size inb_S1x2048x512_S1x256x128_0_0_0).toLoadRect (harg3.unread x1))
      (View.readAt (Elt Ideal) arg2.view (Rect.unit (s := S1x512x2048) ![0, 0, 0] S1x128x256.size inb_S1x512x2048_S1x128x256_0_0_0).toLoadRect (harg2.unread x0))
      (View.readAt (Elt Ideal) arg4.view (Rect.unit (s := S1x1024x2048) ![0, 0, 0] S1x128x256.size inb_S1x1024x2048_S1x128x256_0_0_0).toLoadRect (harg4.unread x2))
      0#32 64#32 0 slices_S8x256_o0_0_S1x256 := rfl
  have e4 : (kernelRun0_A.sl.v258 (F := Ideal) c arg6 harg6 arg10 x4) = hE (kernelRun0_A.sl.r_4 (F := Ideal) c arg6 harg6 x4) (kernelRun0_A.sl.r_5 (F := Ideal) c arg6 harg6 arg10 x4) 0 slices_S256x128_o0_0_S256x1 slices_S8x256_o0_0_S1x256 := rfl
  rw [e1, e2, e3, e4, a_r c arg6 harg6 arg10 x4, a_r_1 c arg6 harg6 arg10 x4, a_r_4 c arg6 harg6 arg10 x4, a_r_5 c arg6 harg6 arg10 x4]

theorem piece1 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v375 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 1 slices_S256x128_o0_1_S256x1 slices_S8x256_o1_0_S1x256)
          (kernelRun0_A.sl.v335 (F := Ideal) c arg3 harg3 arg4 harg4 arg6 harg6 arg9 arg10 x1 x2 x4)
          (View.readAt (Elt Ideal) arg3.view (Rect.unit (s := S1x2048x512) ![0, 0, 0] S1x256x128.size inb_S1x2048x512_S1x256x128_0_0_0).toLoadRect (harg3.unread x1))
          (View.readAt (Elt Ideal) arg2.view (Rect.unit (s := S1x512x2048) ![0, 0, 0] S1x128x256.size inb_S1x512x2048_S1x128x256_0_0_0).toLoadRect (harg2.unread x0))
          (View.readAt (Elt Ideal) arg4.view (Rect.unit (s := S1x1024x2048) ![0, 128, 0] S1x128x256.size inb_S1x1024x2048_S1x128x256_0_128_0).toLoadRect (harg4.unread x2))
          64#32 128#32 1 slices_S8x256_o1_0_S1x256) (gE (ldG arg6 harg6 x4) (kernelRun0_A.sl.v118 (F := Ideal) c arg10)) 1 slices_S8x256_o1_0_S1x256)
        (View.readAt (Elt Ideal) arg7.view (Rect.unit (s := S1024x128) ![128, 0] S128x128.size inb_S1024x128_S128x128_128_0).toLoadRect (harg7.unread x5))
        (View.readAt (Elt Ideal) arg5.view (Rect.unit (s := S1x1024x2048) ![0, 128, 0] S1x128x256.size inb_S1x1024x2048_S1x128x256_0_128_0).toLoadRect (harg5.unread x3)) := by
  have e1 : (kernelRun0_A.sl.v375 (F := Ideal) c arg2 harg2 arg3 harg3 arg4 harg4 arg5 harg5 arg6 harg6 arg7 harg7 arg9 arg10 x0 x1 x2 x3 x4 x5) = hY (kernelRun0_A.sl.v352 (F := Ideal) c arg2 harg2 arg3 harg3 arg4 harg4 arg6 harg6 arg9 arg10 x0 x1 x2 x4)
      (View.readAt (Elt Ideal) arg7.view (Rect.unit (s := S1024x128) ![128, 0] S128x128.size inb_S1024x128_S128x128_128_0).toLoadRect (harg7.unread x5))
      (View.readAt (Elt Ideal) arg5.view (Rect.unit (s := S1x1024x2048) ![0, 128, 0] S1x128x256.size inb_S1x1024x2048_S1x128x256_0_128_0).toLoadRect (harg5.unread x3)) := rfl
  have e2 : (kernelRun0_A.sl.v352 (F := Ideal) c arg2 harg2 arg3 harg3 arg4 harg4 arg6 harg6 arg9 arg10 x0 x1 x2 x4) = hH (kernelRun0_A.sl.v345 (F := Ideal) c arg2 harg2 arg3 harg3 arg4 harg4 arg6 harg6 arg9 arg10 x0 x1 x2 x4) (kernelRun0_A.sl.r_1 (F := Ideal) c arg6 harg6 arg10 x4) 1 slices_S8x256_o1_0_S1x256 := rfl
  have e3 : (kernelRun0_A.sl.v345 (F := Ideal) c arg2 harg2 arg3 harg3 arg4 harg4 arg6 harg6 arg9 arg10 x0 x1 x2 x4) = hR (kernelRun0_A.sl.r (F := Ideal) c arg6 harg6 arg10 x4) (kernelRun0_A.sl.v331 (F := Ideal) c arg6 harg6 arg10 x4) (kernelRun0_A.sl.v335 (F := Ideal) c arg3 harg3 arg4 harg4 arg6 harg6 arg9 arg10 x1 x2 x4)
      (View.readAt (Elt Ideal) arg3.view (Rect.unit (s := S1x2048x512) ![0, 0, 0] S1x256x128.size inb_S1x2048x512_S1x256x128_0_0_0).toLoadRect (harg3.unread x1))
      (View.readAt (Elt Ideal) arg2.view (Rect.unit (s := S1x512x2048) ![0, 0, 0] S1x128x256.size inb_S1x512x2048_S1x128x256_0_0_0).toLoadRect (harg2.unread x0))
      (View.readAt (Elt Ideal) arg4.view (Rect.unit (s := S1x1024x2048) ![0, 128, 0] S1x128x256.size inb_S1x1024x2048_S1x128x256_0_128_0).toLoadRect (harg4.unread x2))
      64#32 128#32 1 slices_S8x256_o1_0_S1x256 := rfl
  have e4 : (kernelRun0_A.sl.v331 (F := Ideal) c arg6 harg6 arg10 x4) = hE (kernelRun0_A.sl.r_4 (F := Ideal) c arg6 harg6 x4) (kernelRun0_A.sl.r_5 (F := Ideal) c arg6 harg6 arg10 x4) 1 slices_S256x128_o0_1_S256x1 slices_S8x256_o1_0_S1x256 := rfl
  rw [e1, e2, e3, e4, a_r c arg6 harg6 arg10 x4, a_r_1 c arg6 harg6 arg10 x4, a_r_4 c arg6 harg6 arg10 x4, a_r_5 c arg6 harg6 arg10 x4]

theorem piece2 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v452 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 2 slices_S256x128_o0_2_S256x1 slices_S8x256_o2_0_S1x256)
          (kernelRun0_A.sl.v412 (F := Ideal) c arg3 harg3 arg4 harg4 arg6 harg6 arg9 arg10 x1 x2 x4)
          (View.readAt (Elt Ideal) arg3.view (Rect.unit (s := S1x2048x512) ![0, 0, 128] S1x256x128.size inb_S1x2048x512_S1x256x128_0_0_128).toLoadRect (harg3.unread x1))
          (View.readAt (Elt Ideal) arg2.view (Rect.unit (s := S1x512x2048) ![0, 128, 0] S1x128x256.size inb_S1x512x2048_S1x128x256_0_128_0).toLoadRect (harg2.unread x0))
          (View.readAt (Elt Ideal) arg4.view (Rect.unit (s := S1x1024x2048) ![0, 256, 0] S1x128x256.size inb_S1x1024x2048_S1x128x256_0_256_0).toLoadRect (harg4.unread x2))
          0#32 64#32 2 slices_S8x256_o2_0_S1x256) (gE (ldG arg6 harg6 x4) (kernelRun0_A.sl.v118 (F := Ideal) c arg10)) 2 slices_S8x256_o2_0_S1x256)
        (View.readAt (Elt Ideal) arg7.view (Rect.unit (s := S1024x128) ![256, 0] S128x128.size inb_S1024x128_S128x128_256_0).toLoadRect (harg7.unread x5))
        (View.readAt (Elt Ideal) arg5.view (Rect.unit (s := S1x1024x2048) ![0, 256, 0] S1x128x256.size inb_S1x1024x2048_S1x128x256_0_256_0).toLoadRect (harg5.unread x3)) := by
  have e1 : (kernelRun0_A.sl.v452 (F := Ideal) c arg2 harg2 arg3 harg3 arg4 harg4 arg5 harg5 arg6 harg6 arg7 harg7 arg9 arg10 x0 x1 x2 x3 x4 x5) = hY (kernelRun0_A.sl.v429 (F := Ideal) c arg2 harg2 arg3 harg3 arg4 harg4 arg6 harg6 arg9 arg10 x0 x1 x2 x4)
      (View.readAt (Elt Ideal) arg7.view (Rect.unit (s := S1024x128) ![256, 0] S128x128.size inb_S1024x128_S128x128_256_0).toLoadRect (harg7.unread x5))
      (View.readAt (Elt Ideal) arg5.view (Rect.unit (s := S1x1024x2048) ![0, 256, 0] S1x128x256.size inb_S1x1024x2048_S1x128x256_0_256_0).toLoadRect (harg5.unread x3)) := rfl
  have e2 : (kernelRun0_A.sl.v429 (F := Ideal) c arg2 harg2 arg3 harg3 arg4 harg4 arg6 harg6 arg9 arg10 x0 x1 x2 x4) = hH (kernelRun0_A.sl.v422 (F := Ideal) c arg2 harg2 arg3 harg3 arg4 harg4 arg6 harg6 arg9 arg10 x0 x1 x2 x4) (kernelRun0_A.sl.r_1 (F := Ideal) c arg6 harg6 arg10 x4) 2 slices_S8x256_o2_0_S1x256 := rfl
  have e3 : (kernelRun0_A.sl.v422 (F := Ideal) c arg2 harg2 arg3 harg3 arg4 harg4 arg6 harg6 arg9 arg10 x0 x1 x2 x4) = hR (kernelRun0_A.sl.r (F := Ideal) c arg6 harg6 arg10 x4) (kernelRun0_A.sl.v408 (F := Ideal) c arg6 harg6 arg10 x4) (kernelRun0_A.sl.v412 (F := Ideal) c arg3 harg3 arg4 harg4 arg6 harg6 arg9 arg10 x1 x2 x4)
      (View.readAt (Elt Ideal) arg3.view (Rect.unit (s := S1x2048x512) ![0, 0, 128] S1x256x128.size inb_S1x2048x512_S1x256x128_0_0_128).toLoadRect (harg3.unread x1))
      (View.readAt (Elt Ideal) arg2.view (Rect.unit (s := S1x512x2048) ![0, 128, 0] S1x128x256.size inb_S1x512x2048_S1x128x256_0_128_0).toLoadRect (harg2.unread x0))
      (View.readAt (Elt Ideal) arg4.view (Rect.unit (s := S1x1024x2048) ![0, 256, 0] S1x128x256.size inb_S1x1024x2048_S1x128x256_0_256_0).toLoadRect (harg4.unread x2))
      0#32 64#32 2 slices_S8x256_o2_0_S1x256 := rfl
  have e4 : (kernelRun0_A.sl.v408 (F := Ideal) c arg6 harg6 arg10 x4) = hE (kernelRun0_A.sl.r_4 (F := Ideal) c arg6 harg6 x4) (kernelRun0_A.sl.r_5 (F := Ideal) c arg6 harg6 arg10 x4) 2 slices_S256x128_o0_2_S256x1 slices_S8x256_o2_0_S1x256 := rfl
  rw [e1, e2, e3, e4, a_r c arg6 harg6 arg10 x4, a_r_1 c arg6 harg6 arg10 x4, a_r_4 c arg6 harg6 arg10 x4, a_r_5 c arg6 harg6 arg10 x4]

theorem piece3 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v525 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 3 slices_S256x128_o0_3_S256x1 slices_S8x256_o3_0_S1x256)
          (kernelRun0_A.sl.v485 (F := Ideal) c arg3 harg3 arg4 harg4 arg6 harg6 arg9 arg10 x1 x2 x4)
          (View.readAt (Elt Ideal) arg3.view (Rect.unit (s := S1x2048x512) ![0, 0, 128] S1x256x128.size inb_S1x2048x512_S1x256x128_0_0_128).toLoadRect (harg3.unread x1))
          (View.readAt (Elt Ideal) arg2.view (Rect.unit (s := S1x512x2048) ![0, 128, 0] S1x128x256.size inb_S1x512x2048_S1x128x256_0_128_0).toLoadRect (harg2.unread x0))
          (View.readAt (Elt Ideal) arg4.view (Rect.unit (s := S1x1024x2048) ![0, 384, 0] S1x128x256.size inb_S1x1024x2048_S1x128x256_0_384_0).toLoadRect (harg4.unread x2))
          64#32 128#32 3 slices_S8x256_o3_0_S1x256) (gE (ldG arg6 harg6 x4) (kernelRun0_A.sl.v118 (F := Ideal) c arg10)) 3 slices_S8x256_o3_0_S1x256)
        (View.readAt (Elt Ideal) arg7.view (Rect.unit (s := S1024x128) ![384, 0] S128x128.size inb_S1024x128_S128x128_384_0).toLoadRect (harg7.unread x5))
        (View.readAt (Elt Ideal) arg5.view (Rect.unit (s := S1x1024x2048) ![0, 384, 0] S1x128x256.size inb_S1x1024x2048_S1x128x256_0_384_0).toLoadRect (harg5.unread x3)) := by
  have e1 : (kernelRun0_A.sl.v525 (F := Ideal) c arg2 harg2 arg3 harg3 arg4 harg4 arg5 harg5 arg6 harg6 arg7 harg7 arg9 arg10 x0 x1 x2 x3 x4 x5) = hY (kernelRun0_A.sl.v502 (F := Ideal) c arg2 harg2 arg3 harg3 arg4 harg4 arg6 harg6 arg9 arg10 x0 x1 x2 x4)
      (View.readAt (Elt Ideal) arg7.view (Rect.unit (s := S1024x128) ![384, 0] S128x128.size inb_S1024x128_S128x128_384_0).toLoadRect (harg7.unread x5))
      (View.readAt (Elt Ideal) arg5.view (Rect.unit (s := S1x1024x2048) ![0, 384, 0] S1x128x256.size inb_S1x1024x2048_S1x128x256_0_384_0).toLoadRect (harg5.unread x3)) := rfl
  have e2 : (kernelRun0_A.sl.v502 (F := Ideal) c arg2 harg2 arg3 harg3 arg4 harg4 arg6 harg6 arg9 arg10 x0 x1 x2 x4) = hH (kernelRun0_A.sl.v495 (F := Ideal) c arg2 harg2 arg3 harg3 arg4 harg4 arg6 harg6 arg9 arg10 x0 x1 x2 x4) (kernelRun0_A.sl.r_1 (F := Ideal) c arg6 harg6 arg10 x4) 3 slices_S8x256_o3_0_S1x256 := rfl
  have e3 : (kernelRun0_A.sl.v495 (F := Ideal) c arg2 harg2 arg3 harg3 arg4 harg4 arg6 harg6 arg9 arg10 x0 x1 x2 x4) = hR (kernelRun0_A.sl.r (F := Ideal) c arg6 harg6 arg10 x4) (kernelRun0_A.sl.v481 (F := Ideal) c arg6 harg6 arg10 x4) (kernelRun0_A.sl.v485 (F := Ideal) c arg3 harg3 arg4 harg4 arg6 harg6 arg9 arg10 x1 x2 x4)
      (View.readAt (Elt Ideal) arg3.view (Rect.unit (s := S1x2048x512) ![0, 0, 128] S1x256x128.size inb_S1x2048x512_S1x256x128_0_0_128).toLoadRect (harg3.unread x1))
      (View.readAt (Elt Ideal) arg2.view (Rect.unit (s := S1x512x2048) ![0, 128, 0] S1x128x256.size inb_S1x512x2048_S1x128x256_0_128_0).toLoadRect (harg2.unread x0))
      (View.readAt (Elt Ideal) arg4.view (Rect.unit (s := S1x1024x2048) ![0, 384, 0] S1x128x256.size inb_S1x1024x2048_S1x128x256_0_384_0).toLoadRect (harg4.unread x2))
      64#32 128#32 3 slices_S8x256_o3_0_S1x256 := rfl
  have e4 : (kernelRun0_A.sl.v481 (F := Ideal) c arg6 harg6 arg10 x4) = hE (kernelRun0_A.sl.r_4 (F := Ideal) c arg6 harg6 x4) (kernelRun0_A.sl.r_5 (F := Ideal) c arg6 harg6 arg10 x4) 3 slices_S256x128_o0_3_S256x1 slices_S8x256_o3_0_S1x256 := rfl
  rw [e1, e2, e3, e4, a_r c arg6 harg6 arg10 x4, a_r_1 c arg6 harg6 arg10 x4, a_r_4 c arg6 harg6 arg10 x4, a_r_5 c arg6 harg6 arg10 x4]

theorem piece4 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v602 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 4 slices_S256x128_o0_4_S256x1 slices_S8x256_o4_0_S1x256)
          (kernelRun0_A.sl.v562 (F := Ideal) c arg3 harg3 arg4 harg4 arg6 harg6 arg9 arg10 x1 x2 x4)
          (View.readAt (Elt Ideal) arg3.view (Rect.unit (s := S1x2048x512) ![0, 0, 256] S1x256x128.size inb_S1x2048x512_S1x256x128_0_0_256).toLoadRect (harg3.unread x1))
          (View.readAt (Elt Ideal) arg2.view (Rect.unit (s := S1x512x2048) ![0, 256, 0] S1x128x256.size inb_S1x512x2048_S1x128x256_0_256_0).toLoadRect (harg2.unread x0))
          (View.readAt (Elt Ideal) arg4.view (Rect.unit (s := S1x1024x2048) ![0, 512, 0] S1x128x256.size inb_S1x1024x2048_S1x128x256_0_512_0).toLoadRect (harg4.unread x2))
          0#32 64#32 4 slices_S8x256_o4_0_S1x256) (gE (ldG arg6 harg6 x4) (kernelRun0_A.sl.v118 (F := Ideal) c arg10)) 4 slices_S8x256_o4_0_S1x256)
        (View.readAt (Elt Ideal) arg7.view (Rect.unit (s := S1024x128) ![512, 0] S128x128.size inb_S1024x128_S128x128_512_0).toLoadRect (harg7.unread x5))
        (View.readAt (Elt Ideal) arg5.view (Rect.unit (s := S1x1024x2048) ![0, 512, 0] S1x128x256.size inb_S1x1024x2048_S1x128x256_0_512_0).toLoadRect (harg5.unread x3)) := by
  have e1 : (kernelRun0_A.sl.v602 (F := Ideal) c arg2 harg2 arg3 harg3 arg4 harg4 arg5 harg5 arg6 harg6 arg7 harg7 arg9 arg10 x0 x1 x2 x3 x4 x5) = hY (kernelRun0_A.sl.v579 (F := Ideal) c arg2 harg2 arg3 harg3 arg4 harg4 arg6 harg6 arg9 arg10 x0 x1 x2 x4)
      (View.readAt (Elt Ideal) arg7.view (Rect.unit (s := S1024x128) ![512, 0] S128x128.size inb_S1024x128_S128x128_512_0).toLoadRect (harg7.unread x5))
      (View.readAt (Elt Ideal) arg5.view (Rect.unit (s := S1x1024x2048) ![0, 512, 0] S1x128x256.size inb_S1x1024x2048_S1x128x256_0_512_0).toLoadRect (harg5.unread x3)) := rfl
  have e2 : (kernelRun0_A.sl.v579 (F := Ideal) c arg2 harg2 arg3 harg3 arg4 harg4 arg6 harg6 arg9 arg10 x0 x1 x2 x4) = hH (kernelRun0_A.sl.v572 (F := Ideal) c arg2 harg2 arg3 harg3 arg4 harg4 arg6 harg6 arg9 arg10 x0 x1 x2 x4) (kernelRun0_A.sl.r_1 (F := Ideal) c arg6 harg6 arg10 x4) 4 slices_S8x256_o4_0_S1x256 := rfl
  have e3 : (kernelRun0_A.sl.v572 (F := Ideal) c arg2 harg2 arg3 harg3 arg4 harg4 arg6 harg6 arg9 arg10 x0 x1 x2 x4) = hR (kernelRun0_A.sl.r (F := Ideal) c arg6 harg6 arg10 x4) (kernelRun0_A.sl.v558 (F := Ideal) c arg6 harg6 arg10 x4) (kernelRun0_A.sl.v562 (F := Ideal) c arg3 harg3 arg4 harg4 arg6 harg6 arg9 arg10 x1 x2 x4)
      (View.readAt (Elt Ideal) arg3.view (Rect.unit (s := S1x2048x512) ![0, 0, 256] S1x256x128.size inb_S1x2048x512_S1x256x128_0_0_256).toLoadRect (harg3.unread x1))
      (View.readAt (Elt Ideal) arg2.view (Rect.unit (s := S1x512x2048) ![0, 256, 0] S1x128x256.size inb_S1x512x2048_S1x128x256_0_256_0).toLoadRect (harg2.unread x0))
      (View.readAt (Elt Ideal) arg4.view (Rect.unit (s := S1x1024x2048) ![0, 512, 0] S1x128x256.size inb_S1x1024x2048_S1x128x256_0_512_0).toLoadRect (harg4.unread x2))
      0#32 64#32 4 slices_S8x256_o4_0_S1x256 := rfl
  have e4 : (kernelRun0_A.sl.v558 (F := Ideal) c arg6 harg6 arg10 x4) = hE (kernelRun0_A.sl.r_4 (F := Ideal) c arg6 harg6 x4) (kernelRun0_A.sl.r_5 (F := Ideal) c arg6 harg6 arg10 x4) 4 slices_S256x128_o0_4_S256x1 slices_S8x256_o4_0_S1x256 := rfl
  rw [e1, e2, e3, e4, a_r c arg6 harg6 arg10 x4, a_r_1 c arg6 harg6 arg10 x4, a_r_4 c arg6 harg6 arg10 x4, a_r_5 c arg6 harg6 arg10 x4]

theorem piece5 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v675 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 5 slices_S256x128_o0_5_S256x1 slices_S8x256_o5_0_S1x256)
          (kernelRun0_A.sl.v635 (F := Ideal) c arg3 harg3 arg4 harg4 arg6 harg6 arg9 arg10 x1 x2 x4)
          (View.readAt (Elt Ideal) arg3.view (Rect.unit (s := S1x2048x512) ![0, 0, 256] S1x256x128.size inb_S1x2048x512_S1x256x128_0_0_256).toLoadRect (harg3.unread x1))
          (View.readAt (Elt Ideal) arg2.view (Rect.unit (s := S1x512x2048) ![0, 256, 0] S1x128x256.size inb_S1x512x2048_S1x128x256_0_256_0).toLoadRect (harg2.unread x0))
          (View.readAt (Elt Ideal) arg4.view (Rect.unit (s := S1x1024x2048) ![0, 640, 0] S1x128x256.size inb_S1x1024x2048_S1x128x256_0_640_0).toLoadRect (harg4.unread x2))
          64#32 128#32 5 slices_S8x256_o5_0_S1x256) (gE (ldG arg6 harg6 x4) (kernelRun0_A.sl.v118 (F := Ideal) c arg10)) 5 slices_S8x256_o5_0_S1x256)
        (View.readAt (Elt Ideal) arg7.view (Rect.unit (s := S1024x128) ![640, 0] S128x128.size inb_S1024x128_S128x128_640_0).toLoadRect (harg7.unread x5))
        (View.readAt (Elt Ideal) arg5.view (Rect.unit (s := S1x1024x2048) ![0, 640, 0] S1x128x256.size inb_S1x1024x2048_S1x128x256_0_640_0).toLoadRect (harg5.unread x3)) := by
  have e1 : (kernelRun0_A.sl.v675 (F := Ideal) c arg2 harg2 arg3 harg3 arg4 harg4 arg5 harg5 arg6 harg6 arg7 harg7 arg9 arg10 x0 x1 x2 x3 x4 x5) = hY (kernelRun0_A.sl.v652 (F := Ideal) c arg2 harg2 arg3 harg3 arg4 harg4 arg6 harg6 arg9 arg10 x0 x1 x2 x4)
      (View.readAt (Elt Ideal) arg7.view (Rect.unit (s := S1024x128) ![640, 0] S128x128.size inb_S1024x128_S128x128_640_0).toLoadRect (harg7.unread x5))
      (View.readAt (Elt Ideal) arg5.view (Rect.unit (s := S1x1024x2048) ![0, 640, 0] S1x128x256.size inb_S1x1024x2048_S1x128x256_0_640_0).toLoadRect (harg5.unread x3)) := rfl
  have e2 : (kernelRun0_A.sl.v652 (F := Ideal) c arg2 harg2 arg3 harg3 arg4 harg4 arg6 harg6 arg9 arg10 x0 x1 x2 x4) = hH (kernelRun0_A.sl.v645 (F := Ideal) c arg2 harg2 arg3 harg3 arg4 harg4 arg6 harg6 arg9 arg10 x0 x1 x2 x4) (kernelRun0_A.sl.r_1 (F := Ideal) c arg6 harg6 arg10 x4) 5 slices_S8x256_o5_0_S1x256 := rfl
  have e3 : (kernelRun0_A.sl.v645 (F := Ideal) c arg2 harg2 arg3 harg3 arg4 harg4 arg6 harg6 arg9 arg10 x0 x1 x2 x4) = hR (kernelRun0_A.sl.r (F := Ideal) c arg6 harg6 arg10 x4) (kernelRun0_A.sl.v631 (F := Ideal) c arg6 harg6 arg10 x4) (kernelRun0_A.sl.v635 (F := Ideal) c arg3 harg3 arg4 harg4 arg6 harg6 arg9 arg10 x1 x2 x4)
      (View.readAt (Elt Ideal) arg3.view (Rect.unit (s := S1x2048x512) ![0, 0, 256] S1x256x128.size inb_S1x2048x512_S1x256x128_0_0_256).toLoadRect (harg3.unread x1))
      (View.readAt (Elt Ideal) arg2.view (Rect.unit (s := S1x512x2048) ![0, 256, 0] S1x128x256.size inb_S1x512x2048_S1x128x256_0_256_0).toLoadRect (harg2.unread x0))
      (View.readAt (Elt Ideal) arg4.view (Rect.unit (s := S1x1024x2048) ![0, 640, 0] S1x128x256.size inb_S1x1024x2048_S1x128x256_0_640_0).toLoadRect (harg4.unread x2))
      64#32 128#32 5 slices_S8x256_o5_0_S1x256 := rfl
  have e4 : (kernelRun0_A.sl.v631 (F := Ideal) c arg6 harg6 arg10 x4) = hE (kernelRun0_A.sl.r_4 (F := Ideal) c arg6 harg6 x4) (kernelRun0_A.sl.r_5 (F := Ideal) c arg6 harg6 arg10 x4) 5 slices_S256x128_o0_5_S256x1 slices_S8x256_o5_0_S1x256 := rfl
  rw [e1, e2, e3, e4, a_r c arg6 harg6 arg10 x4, a_r_1 c arg6 harg6 arg10 x4, a_r_4 c arg6 harg6 arg10 x4, a_r_5 c arg6 harg6 arg10 x4]

theorem piece6 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v752 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 6 slices_S256x128_o0_6_S256x1 slices_S8x256_o6_0_S1x256)
          (kernelRun0_A.sl.v712 (F := Ideal) c arg3 harg3 arg4 harg4 arg6 harg6 arg9 arg10 x1 x2 x4)
          (View.readAt (Elt Ideal) arg3.view (Rect.unit (s := S1x2048x512) ![0, 0, 384] S1x256x128.size inb_S1x2048x512_S1x256x128_0_0_384).toLoadRect (harg3.unread x1))
          (View.readAt (Elt Ideal) arg2.view (Rect.unit (s := S1x512x2048) ![0, 384, 0] S1x128x256.size inb_S1x512x2048_S1x128x256_0_384_0).toLoadRect (harg2.unread x0))
          (View.readAt (Elt Ideal) arg4.view (Rect.unit (s := S1x1024x2048) ![0, 768, 0] S1x128x256.size inb_S1x1024x2048_S1x128x256_0_768_0).toLoadRect (harg4.unread x2))
          0#32 64#32 6 slices_S8x256_o6_0_S1x256) (gE (ldG arg6 harg6 x4) (kernelRun0_A.sl.v118 (F := Ideal) c arg10)) 6 slices_S8x256_o6_0_S1x256)
        (View.readAt (Elt Ideal) arg7.view (Rect.unit (s := S1024x128) ![768, 0] S128x128.size inb_S1024x128_S128x128_768_0).toLoadRect (harg7.unread x5))
        (View.readAt (Elt Ideal) arg5.view (Rect.unit (s := S1x1024x2048) ![0, 768, 0] S1x128x256.size inb_S1x1024x2048_S1x128x256_0_768_0).toLoadRect (harg5.unread x3)) := by
  have e1 : (kernelRun0_A.sl.v752 (F := Ideal) c arg2 harg2 arg3 harg3 arg4 harg4 arg5 harg5 arg6 harg6 arg7 harg7 arg9 arg10 x0 x1 x2 x3 x4 x5) = hY (kernelRun0_A.sl.v729 (F := Ideal) c arg2 harg2 arg3 harg3 arg4 harg4 arg6 harg6 arg9 arg10 x0 x1 x2 x4)
      (View.readAt (Elt Ideal) arg7.view (Rect.unit (s := S1024x128) ![768, 0] S128x128.size inb_S1024x128_S128x128_768_0).toLoadRect (harg7.unread x5))
      (View.readAt (Elt Ideal) arg5.view (Rect.unit (s := S1x1024x2048) ![0, 768, 0] S1x128x256.size inb_S1x1024x2048_S1x128x256_0_768_0).toLoadRect (harg5.unread x3)) := rfl
  have e2 : (kernelRun0_A.sl.v729 (F := Ideal) c arg2 harg2 arg3 harg3 arg4 harg4 arg6 harg6 arg9 arg10 x0 x1 x2 x4) = hH (kernelRun0_A.sl.v722 (F := Ideal) c arg2 harg2 arg3 harg3 arg4 harg4 arg6 harg6 arg9 arg10 x0 x1 x2 x4) (kernelRun0_A.sl.r_1 (F := Ideal) c arg6 harg6 arg10 x4) 6 slices_S8x256_o6_0_S1x256 := rfl
  have e3 : (kernelRun0_A.sl.v722 (F := Ideal) c arg2 harg2 arg3 harg3 arg4 harg4 arg6 harg6 arg9 arg10 x0 x1 x2 x4) = hR (kernelRun0_A.sl.r (F := Ideal) c arg6 harg6 arg10 x4) (kernelRun0_A.sl.v708 (F := Ideal) c arg6 harg6 arg10 x4) (kernelRun0_A.sl.v712 (F := Ideal) c arg3 harg3 arg4 harg4 arg6 harg6 arg9 arg10 x1 x2 x4)
      (View.readAt (Elt Ideal) arg3.view (Rect.unit (s := S1x2048x512) ![0, 0, 384] S1x256x128.size inb_S1x2048x512_S1x256x128_0_0_384).toLoadRect (harg3.unread x1))
      (View.readAt (Elt Ideal) arg2.view (Rect.unit (s := S1x512x2048) ![0, 384, 0] S1x128x256.size inb_S1x512x2048_S1x128x256_0_384_0).toLoadRect (harg2.unread x0))
      (View.readAt (Elt Ideal) arg4.view (Rect.unit (s := S1x1024x2048) ![0, 768, 0] S1x128x256.size inb_S1x1024x2048_S1x128x256_0_768_0).toLoadRect (harg4.unread x2))
      0#32 64#32 6 slices_S8x256_o6_0_S1x256 := rfl
  have e4 : (kernelRun0_A.sl.v708 (F := Ideal) c arg6 harg6 arg10 x4) = hE (kernelRun0_A.sl.r_4 (F := Ideal) c arg6 harg6 x4) (kernelRun0_A.sl.r_5 (F := Ideal) c arg6 harg6 arg10 x4) 6 slices_S256x128_o0_6_S256x1 slices_S8x256_o6_0_S1x256 := rfl
  rw [e1, e2, e3, e4, a_r c arg6 harg6 arg10 x4, a_r_1 c arg6 harg6 arg10 x4, a_r_4 c arg6 harg6 arg10 x4, a_r_5 c arg6 harg6 arg10 x4]

theorem piece7 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32) :
    (kernelRun0_A.sl.v825 (F := Ideal) c arg2 harg2 arg3 harg3 arg4 harg4 arg5 harg5 arg6 harg6 arg7 harg7 arg9 arg10 x0 x1 x2 x3 x4 x5)
      = hY (hH (hR (gN (ldG arg6 harg6 x4) (kernelRun0_A.sl.v118 (F := Ideal) c arg10)) (hE (k0_pay32 (gU (ldG arg6 harg6 x4))) (gM2 (ldG arg6 harg6 x4) (kernelRun0_A.sl.v118 (F := Ideal) c arg10)) 7 slices_S256x128_o0_7_S256x1 slices_S8x256_o7_0_S1x256)
          (kernelRun0_A.sl.v785 (F := Ideal) c arg3 harg3 arg4 harg4 arg6 harg6 arg9 arg10 x1 x2 x4)
          (View.readAt (Elt Ideal) arg3.view (Rect.unit (s := S1x2048x512) ![0, 0, 384] S1x256x128.size inb_S1x2048x512_S1x256x128_0_0_384).toLoadRect (harg3.unread x1))
          (View.readAt (Elt Ideal) arg2.view (Rect.unit (s := S1x512x2048) ![0, 384, 0] S1x128x256.size inb_S1x512x2048_S1x128x256_0_384_0).toLoadRect (harg2.unread x0))
          (View.readAt (Elt Ideal) arg4.view (Rect.unit (s := S1x1024x2048) ![0, 896, 0] S1x128x256.size inb_S1x1024x2048_S1x128x256_0_896_0).toLoadRect (harg4.unread x2))
          64#32 128#32 7 slices_S8x256_o7_0_S1x256) (gE (ldG arg6 harg6 x4) (kernelRun0_A.sl.v118 (F := Ideal) c arg10)) 7 slices_S8x256_o7_0_S1x256)
        (View.readAt (Elt Ideal) arg7.view (Rect.unit (s := S1024x128) ![896, 0] S128x128.size inb_S1024x128_S128x128_896_0).toLoadRect (harg7.unread x5))
        (View.readAt (Elt Ideal) arg5.view (Rect.unit (s := S1x1024x2048) ![0, 896, 0] S1x128x256.size inb_S1x1024x2048_S1x128x256_0_896_0).toLoadRect (harg5.unread x3)) := by
  have e1 : (kernelRun0_A.sl.v825 (F := Ideal) c arg2 harg2 arg3 harg3 arg4 harg4 arg5 harg5 arg6 harg6 arg7 harg7 arg9 arg10 x0 x1 x2 x3 x4 x5) = hY (kernelRun0_A.sl.v802 (F := Ideal) c arg2 harg2 arg3 harg3 arg4 harg4 arg6 harg6 arg9 arg10 x0 x1 x2 x4)
      (View.readAt (Elt Ideal) arg7.view (Rect.unit (s := S1024x128) ![896, 0] S128x128.size inb_S1024x128_S128x128_896_0).toLoadRect (harg7.unread x5))
      (View.readAt (Elt Ideal) arg5.view (Rect.unit (s := S1x1024x2048) ![0, 896, 0] S1x128x256.size inb_S1x1024x2048_S1x128x256_0_896_0).toLoadRect (harg5.unread x3)) := rfl
  have e2 : (kernelRun0_A.sl.v802 (F := Ideal) c arg2 harg2 arg3 harg3 arg4 harg4 arg6 harg6 arg9 arg10 x0 x1 x2 x4) = hH (kernelRun0_A.sl.v795 (F := Ideal) c arg2 harg2 arg3 harg3 arg4 harg4 arg6 harg6 arg9 arg10 x0 x1 x2 x4) (kernelRun0_A.sl.r_1 (F := Ideal) c arg6 harg6 arg10 x4) 7 slices_S8x256_o7_0_S1x256 := rfl
  have e3 : (kernelRun0_A.sl.v795 (F := Ideal) c arg2 harg2 arg3 harg3 arg4 harg4 arg6 harg6 arg9 arg10 x0 x1 x2 x4) = hR (kernelRun0_A.sl.r (F := Ideal) c arg6 harg6 arg10 x4) (kernelRun0_A.sl.v781 (F := Ideal) c arg6 harg6 arg10 x4) (kernelRun0_A.sl.v785 (F := Ideal) c arg3 harg3 arg4 harg4 arg6 harg6 arg9 arg10 x1 x2 x4)
      (View.readAt (Elt Ideal) arg3.view (Rect.unit (s := S1x2048x512) ![0, 0, 384] S1x256x128.size inb_S1x2048x512_S1x256x128_0_0_384).toLoadRect (harg3.unread x1))
      (View.readAt (Elt Ideal) arg2.view (Rect.unit (s := S1x512x2048) ![0, 384, 0] S1x128x256.size inb_S1x512x2048_S1x128x256_0_384_0).toLoadRect (harg2.unread x0))
      (View.readAt (Elt Ideal) arg4.view (Rect.unit (s := S1x1024x2048) ![0, 896, 0] S1x128x256.size inb_S1x1024x2048_S1x128x256_0_896_0).toLoadRect (harg4.unread x2))
      64#32 128#32 7 slices_S8x256_o7_0_S1x256 := rfl
  have e4 : (kernelRun0_A.sl.v781 (F := Ideal) c arg6 harg6 arg10 x4) = hE (kernelRun0_A.sl.r_4 (F := Ideal) c arg6 harg6 x4) (kernelRun0_A.sl.r_5 (F := Ideal) c arg6 harg6 arg10 x4) 7 slices_S256x128_o0_7_S256x1 slices_S8x256_o7_0_S1x256 := rfl
  rw [e1, e2, e3, e4, a_r c arg6 harg6 arg10 x4, a_r_1 c arg6 harg6 arg10 x4, a_r_4 c arg6 harg6 arg10 x4, a_r_5 c arg6 harg6 arg10 x4]

end Cert.Proof.MlstmTile

end
-- ==== Proof.TileRead.lean ====
/-
  The first program's first chunk: the rows below 256 of a sequence's first block, read from the stores.
-/
module

public import proofs.«01_k».proof.Proof.TileHeads
public import Idealize.ShloMosaic.Lib.Pipeline.ReadBack

@[expose] public section

noncomputable section

namespace Cert.Proof.MlstmTile

open Idealize.ShloMosaic Idealize.ShloMosaic.TcCoe Idealize.SL.Sem Cert.KernelIdeal Cert.KernelIdeal.Gen

theorem zero_m (c : Dev nD) (arg10 : Memref sig .tc .vmem S8x128 .f32) : kernelRun0_A.sl.v118 (F := Ideal) c arg10 = fun _ => (0 : EReal) := by
  unfold kernelRun0_A.sl.v118 kernelRun0_A.sl.HS1_1
  rw [View.readCov_eq_canon']
  funext j
  rw [View.canon_cons_unit_lit _ _ _ (by decide)]
  show Ideal.ofBits .f32 0x00000000#32 = 0
  simp

theorem zero_st0 (c : Dev nD) (arg9 : Memref sig .tc .vmem S8x144x128 .f32) : kernelRun0_A.sl.v262 (F := Ideal) c arg9 = fun _ => (0 : EReal) := by
  unfold kernelRun0_A.sl.v262 kernelRun0_A.sl.HS0_1
  rw [View.readCov_eq_canon']
  funext j
  rw [View.canon_cons_unit_lit _ _ _ (by decide)]
  show Ideal.ofBits .f32 0x00000000#32 = 0
  simp

theorem zero_st1 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v335 (F := Ideal) c arg3 harg3 arg4 harg4 arg6 harg6 arg9 arg10 x1 x2 x4 = fun _ => (0 : EReal) := by
  unfold kernelRun0_A.sl.v335 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

theorem zero_st2 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v412 (F := Ideal) c arg3 harg3 arg4 harg4 arg6 harg6 arg9 arg10 x1 x2 x4 = fun _ => (0 : EReal) := by
  unfold kernelRun0_A.sl.v412 kernelRun0_A.sl.HS0_3 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

theorem zero_st3 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v485 (F := Ideal) c arg3 harg3 arg4 harg4 arg6 harg6 arg9 arg10 x1 x2 x4 = fun _ => (0 : EReal) := by
  unfold kernelRun0_A.sl.v485 kernelRun0_A.sl.HS0_4 kernelRun0_A.sl.HS0_3 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

theorem zero_st4 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v562 (F := Ideal) c arg3 harg3 arg4 harg4 arg6 harg6 arg9 arg10 x1 x2 x4 = fun _ => (0 : EReal) := by
  unfold kernelRun0_A.sl.v562 kernelRun0_A.sl.HS0_5 kernelRun0_A.sl.HS0_4 kernelRun0_A.sl.HS0_3 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

theorem zero_st5 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v635 (F := Ideal) c arg3 harg3 arg4 harg4 arg6 harg6 arg9 arg10 x1 x2 x4 = fun _ => (0 : EReal) := by
  unfold kernelRun0_A.sl.v635 kernelRun0_A.sl.HS0_6 kernelRun0_A.sl.HS0_5 kernelRun0_A.sl.HS0_4 kernelRun0_A.sl.HS0_3 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

theorem zero_st6 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v712 (F := Ideal) c arg3 harg3 arg4 harg4 arg6 harg6 arg9 arg10 x1 x2 x4 = fun _ => (0 : EReal) := by
  unfold kernelRun0_A.sl.v712 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

theorem zero_st7 (c : Dev nD) (arg3 : Memref sig .tc .vmem S1x2048x512 .bf16) (harg3 : arg3.IsWhole) (arg4 : Memref sig .tc .vmem S1x1024x2048 .bf16)
    (harg4 : arg4.IsWhole) (arg6 : Memref sig .tc .vmem S1x16x2048 .f32) (harg6 : arg6.IsWhole) (arg9 : Memref sig .tc .vmem S8x144x128 .f32)
    (arg10 : Memref sig .tc .vmem S8x128 .f32) (x1 : Vec Ideal S1x2048x512 .bf16) (x2 : Vec Ideal S1x1024x2048 .bf16) (x4 : Vec Ideal S1x16x2048 .f32) :
    kernelRun0_A.sl.v785 (F := Ideal) c arg3 harg3 arg4 harg4 arg6 harg6 arg9 arg10 x1 x2 x4 = fun _ => (0 : EReal) := by
  unfold kernelRun0_A.sl.v785 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  repeat rw [View.readCov_skip _ _ _ _ _ (by decide +kernel)]
  rw [View.readCov_eq_canon']
  funext j
  rw [View.canon_cons_unit_lit _ _ _ (by decide)]
  show Ideal.ofBits .f32 0x00000000#32 = 0
  simp

end Cert.Proof.MlstmTile

end
-- ==== Proof.TileValue.lean ====
/-
  The first program's first chunk: what one head stores, at an index.
-/
module

public import proofs.«01_k».proof.Proof.TilePiece

@[expose] public section

noncomputable section

namespace Cert.Proof.MlstmTile

open Idealize.ShloMosaic Idealize.ShloMosaic.TcCoe Idealize.SL.Sem Cert.KernelIdeal Cert.KernelIdeal.Gen

theorem log2e_val : Named.named (F := Ideal) (φ := .f32) κ "log2e" 0x3FB8AA3B#32 = (((Real.log 2)⁻¹ : ℝ) : EReal) := rfl

/-- A head's queries are masked outside its 64 rows. -/
theorem hQ_apply (Q : Vec Ideal S1x128x256 .bf16) (lo hi : BitVec 32) (a : ℕ) (f : Fin 128) (l : Fin 256)
    (hc : ∀ f : Fin 128, IntOp.andi (IntOp.cmpi .sge (BitVec.ofNat 32 f.val) lo) (IntOp.cmpi .slt (BitVec.ofNat 32 f.val) hi)
      = if a ≤ f.val ∧ f.val < a + 64 then 1#1 else 0#1) :
    hQ Q lo hi (ix2 f l) = if a ≤ f.val ∧ f.val < a + 64 then Q (ix3 (0 : Fin 1) f l) else 0 := by
  unfold hQ
  pointwise
  rw [hc f]
  by_cases c : a ≤ f.val ∧ f.val < a + 64
  · rw [if_pos c, if_pos c]
    rfl
  · rw [if_neg c, if_neg c]
    rfl

theorem causal_bit (s l : Fin 256) :
    IntOp.cmpi .sle (BitVec.ofNat 32 s.val) (BitVec.ofNat 32 l.val) = if s.val ≤ l.val then 1#1 else 0#1 := by
  have hs := s.isLt
  have hl := l.isLt
  have e : (BitVec.ofNat 32 s.val).sle (BitVec.ofNat 32 l.val) = decide (s.val ≤ l.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.mpr (by omega)
  show BitVec.ofBool ((BitVec.ofNat 32 s.val).sle (BitVec.ofNat 32 l.val)) = _
  rw [e]
  by_cases c : s.val ≤ l.val
  · rw [if_pos c, decide_eq_true c]
    rfl
  · rw [if_neg c, decide_eq_false c]
    rfl

theorem hE_apply (U : FVec Ideal S256x128 .f32) (M : FVec Ideal S8x256 .f32) (h : Fin 8) (p1 : S256x128.Slices ![0, h.val] S256x1)
    (p2 : S8x256.Slices ![h.val, 0] S1x256) (s l : Fin 256) :
    hE U M h.val p1 p2 (ix2 s l) = if s.val ≤ l.val then Ideal.exp2 (U (ix2 s ⟨h.val, by omega⟩) - M (ix2 h l)) else 0 := by
  unfold hE
  pointwise
  rw [causal_bit]
  by_cases c : s.val ≤ l.val
  · rw [if_pos c, if_pos c]
    rfl
  · rw [if_neg c, if_neg c]
    rfl

theorem pay32_apply (U : FVec Ideal S8x256 .f32) (h : Fin 8) (s : Fin 256) :
    k0_pay32 U (ix2 s (⟨h.val, by omega⟩ : Fin 128)) = U (ix2 h s) * (((Real.log 2)⁻¹ : ℝ) : EReal) := by
  unfold k0_pay32
  pointwise
  rw [log2e_val]

theorem ones_apply (r : Fin 16) (s : Fin 256) : ones (ix2 r s) = if r.val = 0 then 1 else 0 := by
  have hc : ∀ r : Fin 16, IntOp.cmpi .eq (BitVec.ofNat 32 r.val) 0#32 = if r.val = 0 then 1#1 else 0#1 := by decide
  unfold ones
  pointwise
  rw [hc r]
  by_cases c : r.val = 0
  · rw [if_pos c, if_pos c]
    rfl
  · rw [if_neg c, if_neg c]
    rfl

/-- A head's scores. -/
def tS (K : Vec Ideal S1x256x128 .bf16) (Q : Vec Ideal S1x128x256 .bf16) (a : ℕ) (ha : a ≤ 64) (s l : Fin 256) : EReal :=
  ∑ j : Fin 64, K (ix3 (0 : Fin 1) s (⟨a + j.val, by omega⟩ : Fin 128)) * Q (ix3 (0 : Fin 1) (⟨a + j.val, by omega⟩ : Fin 128) l)

theorem sum_half (f : Fin 128 → EReal) (a : ℕ) (ha : a = 0 ∨ a = 64) :
    (∑ x : Fin 128, if a ≤ x.val ∧ x.val < a + 64 then f x else 0) = ∑ j : Fin 64, f ⟨a + j.val, by omega⟩ := by
  rw [Fin.sum_univ_add (a := 64) (b := 64)]
  rcases ha with rfl | rfl
  · rw [Finset.sum_eq_zero (s := Finset.univ (α := Fin 64)) (f := fun i : Fin 64 => if 0 ≤ (Fin.natAdd 64 i).val ∧ (Fin.natAdd 64 i).val < 0 + 64
      then f (Fin.natAdd 64 i) else 0) fun i _ => if_neg (by show ¬(0 ≤ 64 + i.val ∧ 64 + i.val < 0 + 64); omega), add_zero]
    refine Finset.sum_congr rfl fun i _ => ?_
    rw [if_pos ⟨Nat.zero_le _, by show i.val < 0 + 64; omega⟩]
    exact congrArg f (Fin.ext (by show i.val = 0 + i.val; omega))
  · rw [Finset.sum_eq_zero (s := Finset.univ (α := Fin 64)) (f := fun i : Fin 64 => if 64 ≤ (Fin.castAdd 64 i).val ∧ (Fin.castAdd 64 i).val < 64 + 64
      then f (Fin.castAdd 64 i) else 0) fun i _ => if_neg (by show ¬(64 ≤ i.val ∧ i.val < 64 + 64); omega), zero_add]
    refine Finset.sum_congr rfl fun i _ => ?_
    rw [if_pos ⟨by show 64 ≤ 64 + i.val; omega, by show 64 + i.val < 64 + 64; omega⟩]
    rfl

theorem scores_apply (K : Vec Ideal S1x256x128 .bf16) (Q : Vec Ideal S1x128x256 .bf16) (lo hi : BitVec 32) (a : ℕ) (ha : a = 0 ∨ a = 64)
    (hc : ∀ f : Fin 128, IntOp.andi (IntOp.cmpi .sge (BitVec.ofNat 32 f.val) lo) (IntOp.cmpi .slt (BitVec.ofNat 32 f.val) hi)
      = if a ≤ f.val ∧ f.val < a + 64 then 1#1 else 0#1) (s l : Fin 256) :
    (∑ x : Fin 128, K (ix3 (0 : Fin 1) s x) * hQ Q lo hi (ix2 x l)) = tS K Q a (by omega) s l := by
  unfold tS
  rw [← sum_half (fun x => K (ix3 (0 : Fin 1) s x) * Q (ix3 (0 : Fin 1) x l)) a ha]
  refine Finset.sum_congr rfl fun x _ => ?_
  rw [hQ_apply Q lo hi a x l hc]
  by_cases c : a ≤ x.val ∧ x.val < a + 64
  · rw [if_pos c, if_pos c]
  · rw [if_neg c, if_neg c, mul_zero]

theorem hR_apply (N : FVec Ideal S8x256 .f32) (E : FVec Ideal S256x256 .f32) (st : Vec Ideal S1x144x128 .f32)
    (K : Vec Ideal S1x256x128 .bf16) (Q : Vec Ideal S1x128x256 .bf16) (V : Vec Ideal S1x128x256 .bf16) (lo hi : BitVec 32) (h : ℕ) (hh : h < 8)
    (p2 : S8x256.Slices ![h, 0] S1x256) (r : Fin 144) (l : Fin 256) :
    hR N E st K Q V lo hi h p2 (ix2 r l) = N (ix2 (⟨h, hh⟩ : Fin 8) l) * ∑ x, st (ix3 (0 : Fin 1) r x) * hQ Q lo hi (ix2 x l) +
      ∑ x : Fin 256, (if h : r.val < 128 then V (ix3 (0 : Fin 1) (⟨r.val, h⟩ : Fin 128) x) else ones (ix2 (⟨r.val - 128, by omega⟩ : Fin 16) x))
          * ((∑ y, K (ix3 (0 : Fin 1) x y) * hQ Q lo hi (ix2 y l)) * E (ix2 x l)) := by
  unfold hR
  generalize hQ Q lo hi = Z
  pointwise

theorem hH_apply (R : FVec Ideal S144x256 .f32) (E : FVec Ideal S8x256 .f32) (h : ℕ) (hh : h < 8) (p2 : S8x256.Slices ![h, 0] S1x256)
    (d : Fin 128) (l : Fin 256) :
    hH R E h p2 (ix2 d l) = Ideal.div (R (ix2 (⟨d.val, by omega⟩ : Fin 144) l))
      (max (FloatOps.absf (F := Ideal) (φ := .f32) (R (ix2 (128 : Fin 144) l))) (E (ix2 (⟨h, hh⟩ : Fin 8) l))) := by
  unfold hH
  pointwise

theorem hY_apply (H : FVec Ideal S128x256 .f32) (W : Vec Ideal S128x128 .f32) (O : Vec Ideal S1x128x256 .bf16) (d : Fin 128) (l : Fin 256) :
    hY H W O (ix3 (0 : Fin 1) l d) = O (ix3 (0 : Fin 1) d l) * (H (ix2 d l) * Ideal.rsqrt (Ideal.div (∑ x, H (ix2 x l) * H (ix2 x l))
      (Ideal.ofBits .f32 0x43000000#32) + Ideal.ofBits .f32 0x358637BD#32) * W (ix2 d (⟨l.val % 128, by omega⟩ : Fin 128))) := by
  unfold hY
  pointwise
  have hl := l.isLt
  by_cases c : l.val < 128
  · rw [dif_pos c]
    refine congrArg _ (congrArg _ (congrArg W ?_))
    exact congrArg (ix2 d) (Fin.ext (by show l.val = l.val % 128; omega))
  · rw [dif_neg c]
    refine congrArg _ (congrArg _ (congrArg W ?_))
    exact congrArg (ix2 d) (Fin.ext (by show l.val - 128 = l.val % 128; omega))

/-- A head's quotient of numerator and denominator, from its scores, decay factors, values and least denominator. -/
def tQ (S E : Fin 256 → Fin 256 → EReal) (V : Fin 128 → Fin 256 → EReal) (e : Fin 256 → EReal) (d : Fin 128) (l : Fin 256) : EReal :=
  Ideal.div (∑ s, V d s * (S s l * E s l)) (max (FloatOps.absf (F := Ideal) (φ := .f32) (∑ s, S s l * E s l)) (e l))

/-- A head's result at an index. -/
def tY (H : Fin 128 → EReal) (w o : EReal) (d : Fin 128) : EReal :=
  o * (H d * Ideal.rsqrt (Ideal.div (∑ x, H x * H x) (Ideal.ofBits .f32 0x43000000#32) + Ideal.ofBits .f32 0x358637BD#32) * w)

/-- A head's decay factor at an index. -/
def tE (G : Vec Ideal S1x16x256 .f32) (m0 : Vec Ideal S8x1 .f32) (h : Fin 8) (s l : Fin 256) : EReal :=
  if s.val ≤ l.val then Ideal.exp2 (gU G (ix2 h s) * (((Real.log 2)⁻¹ : ℝ) : EReal) - gM G m0 (ix2 h l) * (((Real.log 2)⁻¹ : ℝ) : EReal)) else 0

theorem head_apply (G : Vec Ideal S1x16x256 .f32) (m0 : Vec Ideal S8x1 .f32)
    (K : Vec Ideal S1x256x128 .bf16) (Q : Vec Ideal S1x128x256 .bf16) (V : Vec Ideal S1x128x256 .bf16) (lo hi : BitVec 32) (h : Fin 8)
    (a : ℕ) (ha : a = 0 ∨ a = 64)
    (hc : ∀ f : Fin 128, IntOp.andi (IntOp.cmpi .sge (BitVec.ofNat 32 f.val) lo) (IntOp.cmpi .slt (BitVec.ofNat 32 f.val) hi)
      = if a ≤ f.val ∧ f.val < a + 64 then 1#1 else 0#1)
    (p1 : S256x128.Slices ![0, h.val] S256x1) (p2 : S8x256.Slices ![h.val, 0] S1x256)
    (W : Vec Ideal S128x128 .f32) (O : Vec Ideal S1x128x256 .bf16) (d : Fin 128) (l : Fin 256) :
    hY (hH (hR (gN G m0) (hE (k0_pay32 (gU G)) (gM2 G m0) h.val p1 p2) (fun _ => (0 : EReal)) K Q V lo hi h.val p2) (gE G m0) h.val p2) W O (ix3 (0 : Fin 1) l d)
      = tY (fun d => tQ (tS K Q a (by omega)) (tE G m0 h) (fun d s => V (ix3 (0 : Fin 1) d s)) (fun l => gE G m0 (ix2 h l)) d l)
          (W (ix2 d (⟨l.val % 128, by omega⟩ : Fin 128))) (O (ix3 (0 : Fin 1) d l)) d := by
  have hEe : ∀ s l, hE (k0_pay32 (gU G)) (gM2 G m0) h.val p1 p2 (ix2 s l) = tE G m0 h s l := fun s l => by
    rw [hE_apply, pay32_apply]
    rfl
  have hz : ∀ x : Fin 256, ones (ix2 (⟨(128 : Fin 144).val - 128, by decide⟩ : Fin 16) x) = 1 := fun x => by
    rw [ones_apply]
    rfl
  have hH0 : ∀ d l, hH (hR (gN G m0) (hE (k0_pay32 (gU G)) (gM2 G m0) h.val p1 p2) (fun _ => (0 : EReal)) K Q V lo hi h.val p2) (gE G m0) h.val p2 (ix2 d l)
      = tQ (tS K Q a (by omega)) (tE G m0 h) (fun d s => V (ix3 (0 : Fin 1) d s)) (fun l => gE G m0 (ix2 h l)) d l := fun d l => by
    rw [hH_apply _ _ _ h.isLt, hR_apply _ _ _ _ _ _ _ _ _ h.isLt, hR_apply _ _ _ _ _ _ _ _ _ h.isLt]
    unfold tQ
    have e1 : ∀ r : Fin 144, gN G m0 (ix2 (⟨h.val, h.isLt⟩ : Fin 8) l) * ∑ x : Fin 128, (0 : EReal) * hQ Q lo hi (ix2 x l) = 0 := fun r => by
      rw [Finset.sum_eq_zero fun x _ => zero_mul _, mul_zero]
    rw [e1 0, zero_add]
    refine congrArg₂ Ideal.div ?_ (congrArg₂ max (congrArg _ ?_) rfl)
    · refine Finset.sum_congr rfl fun s _ => ?_
      rw [dif_pos d.isLt, scores_apply K Q lo hi a ha hc, hEe]
    · rw [zero_add]
      refine Finset.sum_congr rfl fun s _ => ?_
      rw [dif_neg (by decide), hz, one_mul, scores_apply K Q lo hi a ha hc, hEe]
  rw [hY_apply]
  unfold tY
  simp only [hH0]

end Cert.Proof.MlstmTile

end
-- ==== Proof.TileMath.lean ====
/-
  The first program's gates over the reals: running sums of the logarithms of the forget gates, running maxima, decay factors.
-/
module

public import proofs.«01_k».proof.Proof.Gen.KernelIdeal
public import Idealize.ShloMosaic.Lib.KernelVsHost
public import Idealize.ShloMosaic.Lib.Pointwise
public import Idealize.ShloMosaic.Lib.Pipeline.ValueKit
public import proofs.«01_k».proof.Proof.TileValue

@[expose] public section

noncomputable section

namespace Cert.Proof.MlstmTile

open Idealize.ShloMosaic Idealize.ShloMosaic.TcCoe Idealize.SL.Sem Cert.KernelIdeal Cert.KernelIdeal.Gen

/-- The logarithm of the logistic function. -/
def lsg (r : ℝ) : ℝ := min r 0 - Real.log (1 + Real.exp (-|r|))

/-- The same, extended. -/
def lse (x : EReal) : EReal := min x 0 - Ideal.log1p (Ideal.exp (-(FloatOps.absf (F := Ideal) (φ := .f32) x)))

/-- The running sum of the logarithms of the forget gates. -/
def rF (f : ℕ → EReal) (t : ℕ) : EReal := ∑ s ∈ Finset.range (t + 1), lse (f s)

/-- An input gate against it. -/
def rU (i f : ℕ → EReal) (t : ℕ) : EReal := i t - rF f t

/-- The running maximum of the input gates, from 0. -/
def rM (i f : ℕ → EReal) (t : ℕ) : EReal := max ((Finset.range (t + 1)).sup (rU i f)) 0

/-- A head's least denominator. -/
def rLow (i f : ℕ → EReal) (t : ℕ) : EReal := Ideal.exp (-(rF f t + rM i f t))

/-- A head's decay factors. -/
def rDec (i f : ℕ → EReal) (s l : ℕ) : EReal := if s ≤ l then Ideal.exp (rU i f s - rM i f l) else 0

theorem log1p_exp (r : ℝ) : Ideal.log1p (Ideal.exp (r : EReal)) = ((Real.log (1 + Real.exp r) : ℝ) : EReal) := by
  unfold Ideal.log1p
  rw [Ideal.exp_coe, ← EReal.coe_one, ← EReal.coe_add]
  show (if 1 + Real.exp r ≤ 0 then (⊥ : EReal) else _) = _
  rw [if_neg (by have := Real.exp_pos r; linarith)]

theorem log1p_exp_bot : Ideal.log1p (Ideal.exp (⊥ : EReal)) = 0 := by
  have e : Ideal.exp (⊥ : EReal) = 0 := rfl
  rw [e]
  unfold Ideal.log1p
  rw [add_zero, ← EReal.coe_one]
  show (if (1 : ℝ) ≤ 0 then (⊥ : EReal) else ((Real.log 1 : ℝ) : EReal)) = 0
  rw [if_neg (by norm_num), Real.log_one, EReal.coe_zero]

theorem abs_coe (r : ℝ) : FloatOps.absf (F := Ideal) (φ := .f32) (r : EReal) = ((|r| : ℝ) : EReal) := by
  show max (r : EReal) (-(r : EReal)) = _
  rw [← EReal.coe_neg, ← EReal.coe_strictMono.monotone.map_max]
  rfl

theorem abs_bot : FloatOps.absf (F := Ideal) (φ := .f32) (⊥ : EReal) = (⊤ : EReal) := by
  show max (⊥ : EReal) (-(⊥ : EReal)) = _
  simp

theorem abs_top : FloatOps.absf (F := Ideal) (φ := .f32) (⊤ : EReal) = (⊤ : EReal) := by
  show max (⊤ : EReal) (-(⊤ : EReal)) = _
  simp

theorem lse_coe (r : ℝ) : lse (r : EReal) = ((lsg r : ℝ) : EReal) := by
  unfold lse
  rw [abs_coe, ← EReal.coe_neg, log1p_exp, ← EReal.coe_zero, ← EReal.coe_strictMono.monotone.map_min, ← EReal.coe_sub]
  rfl

theorem lse_bot : lse ⊥ = ⊥ := by
  unfold lse
  rw [abs_bot, EReal.neg_top, log1p_exp_bot]
  simp

theorem lse_top : lse ⊤ = 0 := by
  unfold lse
  rw [abs_top, EReal.neg_top, log1p_exp_bot]
  simp

theorem lse_ne_top (x : EReal) : lse x ≠ ⊤ := by
  induction x using EReal.rec with
  | bot => rw [lse_bot]; exact bot_ne_top
  | coe r => rw [lse_coe]; exact EReal.coe_ne_top _
  | top => rw [lse_top]; exact EReal.zero_ne_top

theorem rF_ne_top (f : ℕ → EReal) (t : ℕ) : rF f t ≠ ⊤ := by
  unfold rF
  induction t + 1 with
  | zero => simp
  | succ n ih =>
    rw [Finset.sum_range_succ]
    exact EReal.add_ne_top ih (lse_ne_top _)

/-- Adding a number to a running maximum adds it to its members. -/
theorem sup_shift (u : ℕ → EReal) (c : EReal) (t : ℕ) : (Finset.range t).sup (fun s => c + u s) = c + (Finset.range t).sup u := by
  induction t with
  | zero => simp
  | succ t ih =>
    rw [Finset.range_add_one, Finset.sup_insert, Finset.sup_insert, ih]
    have hm : Monotone fun x : EReal => c + x := fun x y h => add_le_add le_rfl h
    exact (hm.map_max).symm

theorem exp2_log2 (x y : EReal) :
    Ideal.exp2 (x * (((Real.log 2)⁻¹ : ℝ) : EReal) - y * (((Real.log 2)⁻¹ : ℝ) : EReal)) = Ideal.exp (x - y) := by
  have hp : 0 < Real.log 2 := Real.log_pos (by norm_num)
  have hi : 0 < (Real.log 2)⁻¹ := inv_pos.mpr hp
  induction x using EReal.rec with
  | bot => rw [EReal.bot_mul_coe_of_pos hi, EReal.bot_sub, EReal.bot_sub]; rfl
  | top =>
    rw [EReal.top_mul_coe_of_pos hi]
    induction y using EReal.rec with
    | bot => rw [EReal.bot_mul_coe_of_pos hi, EReal.top_sub_bot]; rfl
    | top => rw [EReal.top_mul_coe_of_pos hi, EReal.sub_top]; rfl
    | coe y => rw [← EReal.coe_mul, EReal.top_sub_coe, EReal.top_sub_coe]; rfl
  | coe x =>
    induction y using EReal.rec with
    | bot => rw [EReal.bot_mul_coe_of_pos hi, ← EReal.coe_mul, EReal.coe_sub_bot, EReal.coe_sub_bot]; rfl
    | top => rw [EReal.top_mul_coe_of_pos hi, EReal.sub_top, EReal.sub_top]; rfl
    | coe y =>
      rw [← EReal.coe_mul, ← EReal.coe_mul, ← EReal.coe_sub, ← EReal.coe_sub, Ideal.exp2_coe, Ideal.exp_coe]
      congr 1
      show (2 : ℝ) ^ (_ : ℝ) = _
      rw [Real.rpow_def_of_pos (by norm_num)]
      congr 1
      have hl : Real.log 2 ≠ 0 := hp.ne'
      field_simp

/-- A real number cancels. -/
theorem sub_shift (a : ℝ) (u v : EReal) : (a : EReal) + u - (a + v) = u - v := by
  induction v using EReal.rec with
  | bot =>
    induction u using EReal.rec with
    | bot => simp
    | top => simp
    | coe u => rw [EReal.add_bot, ← EReal.coe_add, EReal.coe_sub_bot, EReal.coe_sub_bot]
  | top => rw [EReal.coe_add_top, EReal.sub_top, EReal.sub_top]
  | coe v =>
    induction u using EReal.rec with
    | bot => simp
    | top => rw [EReal.coe_add_top, ← EReal.coe_add, EReal.top_sub_coe, EReal.top_sub_coe]
    | coe u =>
      rw [← EReal.coe_add, ← EReal.coe_add, ← EReal.coe_sub, ← EReal.coe_sub]
      congr 1
      ring

section gates

variable (G : Vec Ideal S1x16x256 .f32) (i f : Fin 8 → ℕ → EReal)
  (hi : ∀ (h : Fin 8) (t : Fin 256), G (ix3 (0 : Fin 1) (⟨h.val, Nat.lt_of_lt_of_le h.isLt (Nat.le_add_left 8 8)⟩ : Fin 16) t) = i h t.val)
  (hf : ∀ (h : Fin 8) (t : Fin 256), G (ix3 (0 : Fin 1) (⟨8 + h.val, Nat.add_lt_add_left h.isLt 8⟩ : Fin 16) t) = f h t.val)

include hf in
theorem gL_eq (h : Fin 8) (t : Fin 256) : gL G (ix2 h t) = lse (f h t.val) := by
  have e : gF G (ix2 h t) = f h t.val := by
    rw [← hf]
    unfold gF
    pointwise
  have z : Ideal.ofBits .f32 0x00000000#32 = 0 := by simp
  show min (gF G (ix2 h t)) (Ideal.ofBits .f32 0x00000000#32) - Ideal.log1p (Ideal.exp (Ideal.ofBits .f32 0x00000000#32
    - FloatOps.absf (F := Ideal) (φ := .f32) (gF G (ix2 h t)))) = _
  rw [e, z, zero_sub]
  rfl

include hf in
theorem gB_eq (h : Fin 8) (t : Fin 256) : gB G (ix2 h t) = rF (f h) t.val := by
  unfold gB rF
  rw [scAdd_apply]
  refine Finset.sum_congr rfl fun s hs => ?_
  have h1 := Finset.mem_range.mp hs
  have h2 := wide_of_lt 0 (gL G) h ⟨s, by omega⟩
  exact h2.trans (gL_eq G f hf h ⟨s, by omega⟩)

include hi hf in
theorem gU_eq (h : Fin 8) (t : Fin 256) : gU G (ix2 h t) = rU (i h) (f h) t.val := by
  have e : gI G (ix2 h t) = i h t.val := by
    rw [← hi]
    unfold gI
    pointwise
  show gI G (ix2 h t) - gB G (ix2 h t) = _
  rw [e, gB_eq G f hf]
  rfl

include hi hf in
theorem gM_eq (h : Fin 8) (t : Fin 256) : gM G (fun _ => (0 : EReal)) (ix2 h t) = rM (i h) (f h) t.val := by
  have e : gM G (fun _ => (0 : EReal)) (ix2 h t) = max (scMax (gU G) (ix2 h t)) 0 := by
    unfold gM
    generalize gU G = U
    generalize scMax U = X
    pointwise
  have e2 : (Finset.range (t.val + 1)).sup (wide ⊥ (gU G) h) = (Finset.range (t.val + 1)).sup (rU (i h) (f h)) := by
    refine Finset.sup_congr rfl fun s hs => ?_
    have h1 := Finset.mem_range.mp hs
    have h2 := wide_of_lt ⊥ (gU G) h ⟨s, by omega⟩
    exact h2.trans (gU_eq G i f hi hf h ⟨s, by omega⟩)
  rw [e, scMax_apply, e2]
  rfl

include hi hf in
theorem gE_eq (h : Fin 8) (t : Fin 256) : gE G (fun _ => (0 : EReal)) (ix2 h t) = rLow (i h) (f h) t.val := by
  have z : Ideal.ofBits .f32 0x00000000#32 = 0 := by simp
  show Ideal.exp (Ideal.ofBits .f32 0x00000000#32 - (gB G (ix2 h t) + gM G (fun _ => (0 : EReal)) (ix2 h t))) = _
  rw [z, gB_eq G f hf, gM_eq G i f hi hf, zero_sub]
  rfl

include hi hf in
theorem tE_eq (h : Fin 8) (s l : Fin 256) : tE G (fun _ => (0 : EReal)) h s l = rDec (i h) (f h) s.val l.val := by
  unfold tE rDec
  refine if_congr Iff.rfl ?_ rfl
  rw [gU_eq G i f hi hf, gM_eq G i f hi hf, exp2_log2]

end gates

end Cert.Proof.MlstmTile

end
-- ==== Proof.TilePieces.lean ====
/-
  The first program's first chunk: what each head's store writes, entry by entry, from the windows.
-/
module

public import proofs.«01_k».proof.Proof.TileHeads
public import proofs.«01_k».proof.Proof.TileRead
public import proofs.«01_k».proof.Proof.TileValue
public import proofs.«01_k».proof.Proof.TileMath

@[expose] public section

set_option backward.proofsInPublic true

noncomputable section

namespace Cert.Proof.MlstmTile

open Idealize.ShloMosaic Idealize.ShloMosaic.TcCoe Idealize.SL.Sem Cert.KernelIdeal Cert.KernelIdeal.Gen

theorem rd_unit {s : Shape} {e : EltTy} (arg : Memref sig .tc .vmem s e) (harg : arg.IsWhole) (x : Vec Ideal s e)
    (off size : Fin s.rank → ℕ) (inb) (i : (Rect.unit (s := s) off size inb).toLoadRect.shape.Idx) (j : s.Idx)
    (hj : ∀ a, (j a : ℕ) = off a + i a) :
    View.readAt (Elt Ideal) arg.view (Rect.unit (s := s) off size inb).toLoadRect (harg.unread x) i = x j := by
  rw [View.readAt_apply, harg.read_unread]
  exact congrArg x (funext fun a => Fin.ext ((Rect.idx_unit_val off size inb i a).trans (hj a).symm))

theorem hc_lo (f : Fin 128) : IntOp.andi (IntOp.cmpi .sge (BitVec.ofNat 32 f.val) 0#32) (IntOp.cmpi .slt (BitVec.ofNat 32 f.val) 64#32)
    = if 0 ≤ f.val ∧ f.val < 0 + 64 then 1#1 else 0#1 := by
  revert f; decide +kernel

theorem hc_hi (f : Fin 128) : IntOp.andi (IntOp.cmpi .sge (BitVec.ofNat 32 f.val) 64#32) (IntOp.cmpi .slt (BitVec.ofNat 32 f.val) 128#32)
    = if 64 ≤ f.val ∧ f.val < 64 + 64 then 1#1 else 0#1 := by
  revert f; decide +kernel

/-- One head's scores, from the windows of `k` and `q`. -/
def wS (x0 : Vec Ideal S1x512x2048 .bf16) (x1 : Vec Ideal S1x2048x512 .bf16) (h : Fin 8) (s l : Fin 256) : EReal :=
  ∑ j : Fin 64, x1 (ix3 (0 : Fin 1) ⟨s.val, by omega⟩ ⟨h.val * 64 + j.val, by omega⟩)
    * x0 (ix3 (0 : Fin 1) ⟨h.val * 64 + j.val, by omega⟩ ⟨l.val, by omega⟩)

/-- One entry of a head's first chunk, from the windows. -/
def wY (x0 : Vec Ideal S1x512x2048 .bf16) (x1 : Vec Ideal S1x2048x512 .bf16) (x2 : Vec Ideal S1x1024x2048 .bf16)
    (x3 : Vec Ideal S1x1024x2048 .bf16) (x5 : Vec Ideal S1024x128 .f32) (i f : Fin 8 → ℕ → EReal) (h : Fin 8) (l : Fin 256) (d : Fin 128) : EReal :=
  tY (fun d => tQ (wS x0 x1 h) (fun s l => rDec (i h) (f h) s.val l.val)
      (fun d s => x2 (ix3 (0 : Fin 1) ⟨h.val * 128 + d.val, by omega⟩ ⟨s.val, by omega⟩))
      (fun l => rLow (i h) (f h) l.val) d l)
    (x5 (ix2 ⟨h.val * 128 + d.val, by omega⟩ ⟨l.val % 128, by omega⟩))
    (x3 (ix3 (0 : Fin 1) ⟨h.val * 128 + d.val, by omega⟩ ⟨l.val, by omega⟩)) d

theorem piece_val (x0 : Vec Ideal S1x512x2048 .bf16) (x1 : Vec Ideal S1x2048x512 .bf16) (x2 : Vec Ideal S1x1024x2048 .bf16)
    (x3 : Vec Ideal S1x1024x2048 .bf16) (x5 : Vec Ideal S1024x128 .f32) (G : Vec Ideal S1x16x256 .f32) (i f : Fin 8 → ℕ → EReal)
    (hi : ∀ (h : Fin 8) (t : Fin 256), G (ix3 (0 : Fin 1) ⟨h.val, by omega⟩ t) = i h t.val)
    (hf : ∀ (h : Fin 8) (t : Fin 256), G (ix3 (0 : Fin 1) ⟨8 + h.val, by omega⟩ t) = f h t.val)
    (K : Vec Ideal S1x256x128 .bf16) (Q : Vec Ideal S1x128x256 .bf16) (V : Vec Ideal S1x128x256 .bf16)
    (W : Vec Ideal S128x128 .f32) (O : Vec Ideal S1x128x256 .bf16) (lo hi' : BitVec 32) (h : Fin 8)
    (a : ℕ) (ha : a = 0 ∨ a = 64)
    (hc : ∀ f : Fin 128, IntOp.andi (IntOp.cmpi .sge (BitVec.ofNat 32 f.val) lo) (IntOp.cmpi .slt (BitVec.ofNat 32 f.val) hi')
      = if a ≤ f.val ∧ f.val < a + 64 then 1#1 else 0#1)
    (p1 : S256x128.Slices ![0, h.val] S256x1) (p2 : S8x256.Slices ![h.val, 0] S1x256)
    (hK : ∀ (s : Fin 256) (j : Fin 64), K (ix3 (0 : Fin 1) s ⟨a + j.val, by omega⟩) = x1 (ix3 (0 : Fin 1) ⟨s.val, by omega⟩ ⟨h.val * 64 + j.val, by omega⟩))
    (hQ : ∀ (j : Fin 64) (l : Fin 256), Q (ix3 (0 : Fin 1) ⟨a + j.val, by omega⟩ l) = x0 (ix3 (0 : Fin 1) ⟨h.val * 64 + j.val, by omega⟩ ⟨l.val, by omega⟩))
    (hV : ∀ (d : Fin 128) (s : Fin 256), V (ix3 (0 : Fin 1) d s) = x2 (ix3 (0 : Fin 1) ⟨h.val * 128 + d.val, by omega⟩ ⟨s.val, by omega⟩))
    (hW : ∀ (d l : Fin 128), W (ix2 d l) = x5 (ix2 ⟨h.val * 128 + d.val, by omega⟩ l))
    (hO : ∀ (d : Fin 128) (l : Fin 256), O (ix3 (0 : Fin 1) d l) = x3 (ix3 (0 : Fin 1) ⟨h.val * 128 + d.val, by omega⟩ ⟨l.val, by omega⟩))
    (d : Fin 128) (l : Fin 256) :
    hY (hH (hR (gN G (fun _ => (0 : EReal))) (hE (k0_pay32 (gU G)) (gM2 G (fun _ => (0 : EReal))) h.val p1 p2) (fun _ => (0 : EReal)) K Q V lo hi' h.val p2) (gE G (fun _ => (0 : EReal))) h.val p2) W O (ix3 (0 : Fin 1) l d)
      = wY x0 x1 x2 x3 x5 i f h l d := by
  have eS : tS K Q a (by omega) = wS x0 x1 h := by
    funext s l
    unfold tS wS
    exact Finset.sum_congr rfl fun j _ => by rw [hK, hQ]
  have eE : tE G (fun _ => (0 : EReal)) h = fun s l => rDec (i h) (f h) s.val l.val := by
    funext s l
    exact tE_eq G i f hi hf h s l
  have eV : (fun (d : Fin 128) (s : Fin 256) => V (ix3 (0 : Fin 1) d s)) = fun d s => x2 (ix3 (0 : Fin 1) ⟨h.val * 128 + d.val, by omega⟩ ⟨s.val, by omega⟩) := by
    funext d s
    exact hV d s
  have eL : (fun l => gE G (fun _ => (0 : EReal)) (ix2 h l)) = fun l : Fin 256 => ((rLow (i h) (f h) l.val : EReal)) := by
    funext l
    exact gE_eq G i f hi hf h l
  refine (head_apply G (fun _ => (0 : EReal)) K Q V lo hi' h a ha hc p1 p2 W O d l).trans ?_
  unfold wY
  rw [eS, eE, eV, eL, hW, hO]

theorem value0 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v302 (F := Ideal) c arg2 harg2 arg3 harg3 arg4 harg4 arg5 harg5 arg6 harg6 arg7 harg7 arg9 arg10 x0 x1 x2 x3 x4 x5) (ix3 (0 : Fin 1) l d) = wY x0 x1 x2 x3 x5 i f 0 l d := by
  rw [piece0 c arg2 harg2 arg3 harg3 arg4 harg4 arg5 harg5 arg6 harg6 arg7 harg7 arg9 arg10 x0 x1 x2 x3 x4 x5, zero_m, zero_st0]
  refine piece_val x0 x1 x2 x3 x5 (ldG arg6 harg6 x4) i f (fun h t => ?_) (fun h t => ?_) _ _ _ _ _ 0#32 64#32 0 0 (by omega) hc_lo _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value1 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v375 (F := Ideal) c arg2 harg2 arg3 harg3 arg4 harg4 arg5 harg5 arg6 harg6 arg7 harg7 arg9 arg10 x0 x1 x2 x3 x4 x5) (ix3 (0 : Fin 1) l d) = wY x0 x1 x2 x3 x5 i f 1 l d := by
  rw [piece1 c arg2 harg2 arg3 harg3 arg4 harg4 arg5 harg5 arg6 harg6 arg7 harg7 arg9 arg10 x0 x1 x2 x3 x4 x5, zero_m, zero_st1]
  refine piece_val x0 x1 x2 x3 x5 (ldG arg6 harg6 x4) i f (fun h t => ?_) (fun h t => ?_) _ _ _ _ _ 64#32 128#32 1 64 (by omega) hc_hi _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value2 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v452 (F := Ideal) c arg2 harg2 arg3 harg3 arg4 harg4 arg5 harg5 arg6 harg6 arg7 harg7 arg9 arg10 x0 x1 x2 x3 x4 x5) (ix3 (0 : Fin 1) l d) = wY x0 x1 x2 x3 x5 i f 2 l d := by
  rw [piece2 c arg2 harg2 arg3 harg3 arg4 harg4 arg5 harg5 arg6 harg6 arg7 harg7 arg9 arg10 x0 x1 x2 x3 x4 x5, zero_m, zero_st2]
  refine piece_val x0 x1 x2 x3 x5 (ldG arg6 harg6 x4) i f (fun h t => ?_) (fun h t => ?_) _ _ _ _ _ 0#32 64#32 2 0 (by omega) hc_lo _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value3 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v525 (F := Ideal) c arg2 harg2 arg3 harg3 arg4 harg4 arg5 harg5 arg6 harg6 arg7 harg7 arg9 arg10 x0 x1 x2 x3 x4 x5) (ix3 (0 : Fin 1) l d) = wY x0 x1 x2 x3 x5 i f 3 l d := by
  rw [piece3 c arg2 harg2 arg3 harg3 arg4 harg4 arg5 harg5 arg6 harg6 arg7 harg7 arg9 arg10 x0 x1 x2 x3 x4 x5, zero_m, zero_st3]
  refine piece_val x0 x1 x2 x3 x5 (ldG arg6 harg6 x4) i f (fun h t => ?_) (fun h t => ?_) _ _ _ _ _ 64#32 128#32 3 64 (by omega) hc_hi _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value4 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v602 (F := Ideal) c arg2 harg2 arg3 harg3 arg4 harg4 arg5 harg5 arg6 harg6 arg7 harg7 arg9 arg10 x0 x1 x2 x3 x4 x5) (ix3 (0 : Fin 1) l d) = wY x0 x1 x2 x3 x5 i f 4 l d := by
  rw [piece4 c arg2 harg2 arg3 harg3 arg4 harg4 arg5 harg5 arg6 harg6 arg7 harg7 arg9 arg10 x0 x1 x2 x3 x4 x5, zero_m, zero_st4]
  refine piece_val x0 x1 x2 x3 x5 (ldG arg6 harg6 x4) i f (fun h t => ?_) (fun h t => ?_) _ _ _ _ _ 0#32 64#32 4 0 (by omega) hc_lo _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value5 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v675 (F := Ideal) c arg2 harg2 arg3 harg3 arg4 harg4 arg5 harg5 arg6 harg6 arg7 harg7 arg9 arg10 x0 x1 x2 x3 x4 x5) (ix3 (0 : Fin 1) l d) = wY x0 x1 x2 x3 x5 i f 5 l d := by
  rw [piece5 c arg2 harg2 arg3 harg3 arg4 harg4 arg5 harg5 arg6 harg6 arg7 harg7 arg9 arg10 x0 x1 x2 x3 x4 x5, zero_m, zero_st5]
  refine piece_val x0 x1 x2 x3 x5 (ldG arg6 harg6 x4) i f (fun h t => ?_) (fun h t => ?_) _ _ _ _ _ 64#32 128#32 5 64 (by omega) hc_hi _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value6 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v752 (F := Ideal) c arg2 harg2 arg3 harg3 arg4 harg4 arg5 harg5 arg6 harg6 arg7 harg7 arg9 arg10 x0 x1 x2 x3 x4 x5) (ix3 (0 : Fin 1) l d) = wY x0 x1 x2 x3 x5 i f 6 l d := by
  rw [piece6 c arg2 harg2 arg3 harg3 arg4 harg4 arg5 harg5 arg6 harg6 arg7 harg7 arg9 arg10 x0 x1 x2 x3 x4 x5, zero_m, zero_st6]
  refine piece_val x0 x1 x2 x3 x5 (ldG arg6 harg6 x4) i f (fun h t => ?_) (fun h t => ?_) _ _ _ _ _ 0#32 64#32 6 0 (by omega) hc_lo _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

theorem value7 (c : Dev nD) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg9 : Memref sig .tc .vmem S8x144x128 .f32)
    (arg10 : Memref sig .tc .vmem S8x128 .f32) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (d : Fin 128) (l : Fin 256) :
    (kernelRun0_A.sl.v825 (F := Ideal) c arg2 harg2 arg3 harg3 arg4 harg4 arg5 harg5 arg6 harg6 arg7 harg7 arg9 arg10 x0 x1 x2 x3 x4 x5) (ix3 (0 : Fin 1) l d) = wY x0 x1 x2 x3 x5 i f 7 l d := by
  rw [piece7 c arg2 harg2 arg3 harg3 arg4 harg4 arg5 harg5 arg6 harg6 arg7 harg7 arg9 arg10 x0 x1 x2 x3 x4 x5, zero_m, zero_st7]
  refine piece_val x0 x1 x2 x3 x5 (ldG arg6 harg6 x4) i f (fun h t => ?_) (fun h t => ?_) _ _ _ _ _ 64#32 128#32 7 64 (by omega) hc_hi _ _
    (fun s j => ?_) (fun j l => ?_) (fun d s => ?_) (fun d l => ?_) (fun d l => ?_) d l
  · refine (rd_unit _ _ _ _ _ _ _ (ix3 (0 : Fin 1) ⟨_, by omega⟩ ⟨t.val, by omega⟩) ?_).trans (hi h t); intro a; fin_cases a <;> simp
  · refine (rd_unit _ _ _ _ _ _ _ (ix3 (0 : Fin 1) ⟨_, by omega⟩ ⟨t.val, by omega⟩) ?_).trans (hf h t); intro a; fin_cases a <;> simp
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega
  · refine rd_unit _ _ _ _ _ _ _ _ ?_; intro a; fin_cases a <;> simp <;> omega

end Cert.Proof.MlstmTile
-- ==== Proof.TileOut.lean ====
/-
  The first program's first chunk: what the output block holds in its first 256 rows after a sequence's first block.
-/
module

public import proofs.«01_k».proof.Proof.TilePieces
public import proofs.«01_k».proof.Proof.Gen.KernelIdeal.Frame
public import Idealize.ShloMosaic.Lib.Pipeline.ValueKit

@[expose] public section

set_option backward.proofsInPublic true

noncomputable section

namespace Cert.Proof.MlstmTile

open Idealize.ShloMosaic Idealize.ShloMosaic.TcCoe Idealize.SL.Sem Cert.KernelIdeal Cert.KernelIdeal.Gen

theorem close_piece (w : Vec Ideal S1x256x128 .bf16) (F : Fin 8 → Fin 256 → Fin 128 → EReal) (k : Fin 8)
    (hw : ∀ (d : Fin 128) (l : Fin 256), w (ix3 (0 : Fin 1) l d) = F k l d) (x : S1x256x128.Idx) (h : Fin 8) (l : Fin 256) (d : Fin 128)
    (e1 : l.val = (x 1).val) (e2 : h.val * 128 + d.val = k.val * 128 + (x 2).val) : w x = F h l d := by
  have hx2 : (x 2).val < 128 := (x 2).isLt
  have hk : k = h := Fin.ext (by omega)
  subst hk
  have hx : x = ix3 (0 : Fin 1) l d := by
    funext a
    match a with
    | ⟨0, _⟩ => exact Subsingleton.elim (α := Fin 1) _ _
    | ⟨1, _⟩ => exact Fin.ext e1.symm
    | ⟨2, _⟩ => exact Fin.ext (by show (x 2).val = d.val; omega)
  rw [hx]
  exact hw d l

theorem tile_late {w : Vec Ideal S1x256x128 .bf16} {v : EReal} {y : S1x2048x1024.Idx} (off : Fin 3 → ℕ) (hy : (y 1).val < 256) (ho : 256 ≤ off 1) :
    View.TileAt (Val := Elt Ideal) (S := S1x2048x1024) (e := .bf16) y off ![1, 256, 128] w v := fun x hx => by
  have h := hx 1
  exact absurd h (by omega)

theorem tile_here {y : S1x2048x1024.Idx} {F : Fin 8 → Fin 256 → Fin 128 → EReal} {h : Fin 8} {l : Fin 256} {d : Fin 128}
    (e1 : (y 1).val = l.val) (e2 : (y 2).val = h.val * 128 + d.val) (w : Vec Ideal S1x256x128 .bf16) (k : Fin 8) (off : Fin 3 → ℕ)
    (o1 : off 1 = 0) (o2 : off 2 = k.val * 128)
    (hw : ∀ (d : Fin 128) (l : Fin 256), w (ix3 (0 : Fin 1) l d) = F k l d) :
    View.TileAt (Val := Elt Ideal) (S := S1x2048x1024) (e := .bf16) y off ![1, 256, 128] w (F h l d) := fun x hx => by
  have h1 := hx 1
  have h2 := hx 2
  exact close_piece w F k hw x h l d (by omega) (by omega)

set_option maxHeartbeats 400000 in
theorem out_tile (c : Dev nD) (i0 : grid0.Coords) (arg2 : Memref sig .tc .vmem S1x512x2048 .bf16) (harg2 : arg2.IsWhole) (arg3 : Memref sig .tc .vmem S1x2048x512 .bf16) (harg3 : arg3.IsWhole)
    (arg4 : Memref sig .tc .vmem S1x1024x2048 .bf16) (harg4 : arg4.IsWhole) (arg5 : Memref sig .tc .vmem S1x1024x2048 .bf16)
    (harg5 : arg5.IsWhole) (arg6 : Memref sig .tc .vmem S1x16x2048 .f32) (harg6 : arg6.IsWhole)
    (arg7 : Memref sig .tc .vmem S1024x128 .f32) (harg7 : arg7.IsWhole) (arg8 : Memref sig .tc .vmem S1x2048x1024 .bf16) (harg8 : arg8.IsWhole) (arg9 : Memref sig .tc .vmem S8x144x128 .f32)
    (harg9 : arg9.IsWhole) (arg10 : Memref sig .tc .vmem S8x128 .f32) (harg10 : arg10.IsWhole) (hc0 : cond0_0 i0) (x0 : Vec Ideal S1x512x2048 .bf16) (x1 : Vec Ideal S1x2048x512 .bf16)
    (x2 : Vec Ideal S1x1024x2048 .bf16) (x3 : Vec Ideal S1x1024x2048 .bf16) (x4 : Vec Ideal S1x16x2048 .f32) (x5 : Vec Ideal S1024x128 .f32)
    (i f : Fin 8 → ℕ → EReal)
    (hi : ∀ (h : Fin 8) (t : Fin 256), x4 (ix3 (0 : Fin 1) ⟨h.val, by omega⟩ ⟨t.val, by omega⟩) = i h t.val)
    (hf : ∀ (h : Fin 8) (t : Fin 256), x4 (ix3 (0 : Fin 1) ⟨8 + h.val, by omega⟩ ⟨t.val, by omega⟩) = f h t.val)
    (y : S1x2048x1024.Idx) (h : Fin 8) (l : Fin 256) (d : Fin 128) (e1 : (y 1).val = l.val) (e2 : (y 2).val = h.val * 128 + d.val) :
    out0_A_6 (F := Ideal) c i0 arg2 harg2 arg3 harg3 arg4 harg4 arg5 harg5 arg6 harg6 arg7 harg7 arg8 harg8 arg9 harg9 arg10 harg10 hc0 x0 x1 x2 x3 x4 x5 y
      = wY x0 x1 x2 x3 x5 i f h l d := by
  have hl : (y 1).val < 256 := by have := l.isLt; omega
  have hcov := cover0_A_6 (F := Ideal) c i0 arg2 harg2 arg3 harg3 arg4 harg4 arg5 harg5 arg6 harg6 arg7 harg7 arg8 harg8 arg9 harg9 arg10 harg10 hc0 x0 x1 x2 x3 x4 x5 y
  unfold out0_A_6
  refine (View.read_writes_junk_apply_eq_canon _ _ _).trans ?_
  unfold kernelRun0_A at hcov ⊢
  dsimp only at hcov ⊢
  refine View.canon_eq_of_allAt _ _ _ hcov ?_
  clear hcov
  repeat refine View.allAt_cons_unit _ _ _ _ _ (tile_late _ hl (by decide)) ?_
  refine View.allAt_cons_unit _ _ _ _ _ (tile_here (F := wY x0 x1 x2 x3 x5 i f) e1 e2 _ 7 _ rfl rfl (value7 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 6 _ rfl rfl (value6 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 5 _ rfl rfl (value5 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 4 _ rfl rfl (value4 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 3 _ rfl rfl (value3 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 2 _ rfl rfl (value2 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 1 _ rfl rfl (value1 c arg2 harg2 arg3 harg3 arg4 harg4 arg5 harg5 arg6 harg6 arg7 harg7 arg9 arg10 x0 x1 x2 x3 x4 x5 i f hi hf)) ?_
  refine View.allAt_cons_unit _ _ _ _ _ (tile_here (F := wY x0 x1 x2 x3 x5 i f) e1 e2 _ 0 _ rfl rfl (value0 c arg2 harg2 arg3 harg3 arg4 harg4 arg5 harg5 arg6 harg6 arg7 harg7 arg9 arg10 x0 x1 x2 x3 x4 x5 i f hi hf)) ?_
  exact View.allAt_nil _ _

end Cert.Proof.MlstmTile
-- ==== Proof.TileWin.lean ====
/-
  The first program's first chunk: the windows of a sequence's first block, as entries of the argument arrays.
-/
module

public import proofs.«01_k».proof.Defs
public import proofs.«01_k».proof.Proof.TilePieces
public import proofs.«01_k».proof.Proof.Gen.KernelIdeal.Frame
public import Idealize.ShloMosaic.Lib.Pointwise
public import Idealize.ShloMosaic.Lib.Pipeline.ValueKit
public import Idealize.ShloMosaic.Lib.Claim

@[expose] public section

set_option backward.proofsInPublic true

noncomputable section

namespace Cert.Proof.MlstmTile

open Idealize.ShloMosaic Idealize.ShloMosaic.TcCoe Idealize.SL.Sem Cert.KernelIdeal Cert.KernelIdeal.Gen

variable (m : (ℓ : Loc nD τ sig) → Buf (Elt Ideal) ℓ)

/-- Where each window's block sits at grid point `t`. -/
theorem places : ∀ t : Fin cfg0.N,
    win0_0.index t = ![t.val / 4, 0, t.val % 4] ∧ win0_1.index t = ![t.val / 4, t.val % 4, 0] ∧
    win0_2.index t = ![t.val / 4, 0, t.val % 4] ∧ win0_3.index t = ![t.val / 4, 0, t.val % 4] ∧
    win0_4.index t = ![t.val / 4, 0, t.val % 4] ∧ win0_5.index t = ![0, 0] ∧
    win0_6.index t = ![t.val / 4, t.val % 4, 0] :=
  (by decide +kernel : ∀ t : Fin grid0.N,
    win0_0.index t = ![t.val / 4, 0, t.val % 4] ∧ win0_1.index t = ![t.val / 4, t.val % 4, 0] ∧
    win0_2.index t = ![t.val / 4, 0, t.val % 4] ∧ win0_3.index t = ![t.val / 4, 0, t.val % 4] ∧
    win0_4.index t = ![t.val / 4, 0, t.val % 4] ∧ win0_5.index t = ![0, 0] ∧
    win0_6.index t = ![t.val / 4, t.val % 4, 0])

/-- The sequence a grid point works on. -/
def tsq (t : Fin cfg0.N) : Fin 2 := ⟨t.val / 4, by have h : t.val < 8 := t.isLt; omega⟩

theorem wq_at (c : Dev nD) (t : Fin cfg0.N) (h0 : t.val % 4 = 0) (f : Fin 512) (l : Fin 256) :
    iblk m c 0 t (ix3 (0 : Fin 1) f (⟨l.val, by omega⟩ : Fin 2048)) = (m ((c : Thread nD τ).loc main_arg0)) (ix3 (tsq t) f (⟨l.val, by omega⟩ : Fin 8192)) := by
  have hp := places t
  unfold tsq
  blk_point [iblk, V, hp]

theorem wk_at (c : Dev nD) (t : Fin cfg0.N) (h0 : t.val % 4 = 0) (f : Fin 512) (l : Fin 256) :
    iblk m c 1 t (ix3 (0 : Fin 1) (⟨l.val, by omega⟩ : Fin 2048) f) = (m ((c : Thread nD τ).loc main_arg1)) (ix3 (tsq t) (⟨l.val, by omega⟩ : Fin 8192) f) := by
  have hp := places t
  unfold tsq
  blk_point [iblk, V, hp]

theorem wv_at (c : Dev nD) (t : Fin cfg0.N) (h0 : t.val % 4 = 0) (f : Fin 1024) (l : Fin 256) :
    iblk m c 2 t (ix3 (0 : Fin 1) f (⟨l.val, by omega⟩ : Fin 2048)) = (m ((c : Thread nD τ).loc main_arg2)) (ix3 (tsq t) f (⟨l.val, by omega⟩ : Fin 8192)) := by
  have hp := places t
  unfold tsq
  blk_point [iblk, V, hp]

theorem wo_at (c : Dev nD) (t : Fin cfg0.N) (h0 : t.val % 4 = 0) (f : Fin 1024) (l : Fin 256) :
    iblk m c 3 t (ix3 (0 : Fin 1) f (⟨l.val, by omega⟩ : Fin 2048)) = (m ((c : Thread nD τ).loc main_arg3)) (ix3 (tsq t) f (⟨l.val, by omega⟩ : Fin 8192)) := by
  have hp := places t
  unfold tsq
  blk_point [iblk, V, hp]

theorem wg_at (c : Dev nD) (t : Fin cfg0.N) (h0 : t.val % 4 = 0) (f : Fin 16) (l : Fin 256) :
    iblk m c 4 t (ix3 (0 : Fin 1) f (⟨l.val, by omega⟩ : Fin 2048)) = (m ((c : Thread nD τ).loc main_arg4)) (ix3 (tsq t) f (⟨l.val, by omega⟩ : Fin 8192)) := by
  have hp := places t
  unfold tsq
  blk_point [iblk, V, hp]

theorem wn_at (c : Dev nD) (t : Fin cfg0.N) (f : Fin 1024) (l : Fin 128) :
    iblk m c 5 t (ix2 f l) = (m ((c : Thread nD τ).loc main_arg5)) (ix2 (0 : Fin 1) f) := by
  have hp := places t
  have e : iblk m c 5 t (ix2 f l) = V m c main_v2 (ix2 f l) := by
    unfold iblk
    refine congrArg (V m c main_v2) ?_
    blk_ext [hp]
  have hv : V m c main_v2 = broadcastInDim S1024x128 ![0, 1] bcast_S1024x1_S1024x128_0_1
      (shapeCast S1024x1 (shapeCast S1024 (m ((c : Thread nD τ).loc main_arg5)) shapeCasts_S1x1024_S1024) shapeCasts_S1024_S1024x1) := by
    show StableHlo.after hostOps0 _ _ = _
    after_results
    rfl
  rw [e, hv]
  pointwise

end Cert.Proof.MlstmTile
-- ==== Proof.TileRef.lean ====
/-
  The first program's reference, entry by entry.
-/
module

public import proofs.«01_k».proof.Proof.Gen.KernelIdeal
public import Idealize.ShloMosaic.Lib.KernelVsHost
public import Idealize.ShloMosaic.Lib.Pointwise
public import Idealize.ShloMosaic.Lib.Pipeline.ValueKit
public import proofs.«01_k».proof.Proof.TileMath
public import proofs.«01_k».proof.Proof.Gen.ReferenceIdeal.Read

@[expose] public section

noncomputable section

namespace Cert.Proof.MlstmTile

open Idealize.ShloMosaic Idealize.ShloMosaic.TcCoe Idealize.SL.Sem Cert.KernelIdeal Cert.KernelIdeal.Gen
open Cert.ReferenceIdeal.Read

variable (x0 : (⟨Cert.ReferenceIdeal.S2x512x8192, .bf16⟩ : BufTy).Contents (Elt Ideal))
  (x1 : (⟨Cert.ReferenceIdeal.S2x8192x512, .bf16⟩ : BufTy).Contents (Elt Ideal))
  (x2 x3 : (⟨Cert.ReferenceIdeal.S2x1024x8192, .bf16⟩ : BufTy).Contents (Elt Ideal))
  (x4 : (⟨Cert.ReferenceIdeal.S2x16x8192, .f32⟩ : BufTy).Contents (Elt Ideal))
  (x5 : (⟨Cert.ReferenceIdeal.S1x1024, .f32⟩ : BufTy).Contents (Elt Ideal))

theorem ref_scores (b : Fin 2) (h : Fin 8) (t s : Fin 8192) :
    val_main_v28 (F := Ideal) x0 x1 (ix4 b h t s)
      = ∑ j : Fin 64, x0 (ix3 b (⟨h.val * 64 + j.val, by omega⟩ : Fin 512) t) * x1 (ix3 b s (⟨h.val * 64 + j.val, by omega⟩ : Fin 512)) := by
  unfold val_main_v28 val_main_v2 val_main_v5 val_main_v1 val_main_v4 val_main_v0 val_main_v3
  pointwise

theorem ref_num (b : Fin 2) (h : Fin 8) (t : Fin 8192) (d : Fin 128) :
    val_main_v34 (F := Ideal) x0 x1 x2 x4 (ix4 b h t d)
      = ∑ s : Fin 8192, val_main_v28 (F := Ideal) x0 x1 (ix4 b h t s) * val_main_v32 (F := Ideal) x4 (ix4 b h t s)
          * x2 (ix3 b (⟨h.val * 128 + d.val, by omega⟩ : Fin 1024) s) := by
  unfold val_main_v34 val_main_v33 val_main_v8 val_main_v7 val_main_v6
  generalize val_main_v28 (F := Ideal) x0 x1 = A
  generalize val_main_v32 (F := Ideal) x4 = B
  pointwise

theorem ref_quot (b : Fin 2) (h : Fin 8) (t : Fin 8192) (d : Fin 128) :
    val_main_v42 (F := Ideal) x0 x1 x2 x4 (ix4 b h t d)
      = Ideal.div (val_main_v34 (F := Ideal) x0 x1 x2 x4 (ix4 b h t d)) (max (FloatOps.absf (F := Ideal) (φ := .f32)
          (∑ s : Fin 8192, val_main_v28 (F := Ideal) x0 x1 (ix4 b h t s) * val_main_v32 (F := Ideal) x4 (ix4 b h t s)))
          (Ideal.exp (-(val_main_v27 (F := Ideal) x4 (ix3 b h t))))) := by
  unfold val_main_v42 val_main_v41 val_main_v40 val_main_v39 val_main_v38 val_main_v37 val_main_v36 val_main_v35 val_main_v33 val_main_cst_1
  generalize val_main_v28 (F := Ideal) x0 x1 = A
  generalize val_main_v32 (F := Ideal) x4 = B
  generalize val_main_v27 (F := Ideal) x4 = M
  generalize val_main_v34 (F := Ideal) x0 x1 x2 x4 = N
  pointwise

theorem ref_logits (b : Fin 2) (h : Fin 8) (t s : Fin 8192) :
    val_main_v24 (F := Ideal) x4 (ix4 b h t s) = val_main_v14 (F := Ideal) x4 (ix3 b h t) - val_main_v14 (F := Ideal) x4 (ix3 b h s)
      + x4 (ix3 b (⟨h.val, by omega⟩ : Fin 16) s) := by
  unfold val_main_v24 val_main_v23 val_main_v22 val_main_v21 val_main_v20 val_main_v19 val_main_v18 val_main_v17 val_main_v11
  generalize val_main_v14 (F := Ideal) x4 = A
  pointwise

theorem ref_masked (b : Fin 2) (h : Fin 8) (t s : Fin 8192) :
    val_main_v25 (F := Ideal) x4 (ix4 b h t s) = if s.val ≤ t.val then val_main_v24 (F := Ideal) x4 (ix4 b h t s) else ⊥ := by
  unfold val_main_v25 val_main_call3_v1 val_main_call3_v2 val_main_call3_v0 val_main_cst val_main_v16 val_main_v15 val_main_c val_main_call2_v4 val_main_call2_v5 val_main_call2_c_0 val_main_call2_v2 val_main_call2_v3 val_main_call2_v1 val_main_call2_v0 val_main_call2_c
  generalize val_main_v24 (F := Ideal) x4 = A
  pointwise
  have z : IntOp.addi (BitVec.ofNat 32 t.val) 0#32 = BitVec.ofNat 32 t.val := BitVec.add_zero _
  have ht := t.isLt
  have hs := s.isLt
  have e : (BitVec.ofNat 32 s.val).sle (BitVec.ofNat 32 t.val) = decide (s.val ≤ t.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.mpr (by omega)
  have e2 : IntOp.cmpi .sge (BitVec.ofNat 32 t.val) (BitVec.ofNat 32 s.val) = BitVec.ofBool (decide (s.val ≤ t.val)) := congrArg BitVec.ofBool e
  rw [z, e2]
  by_cases c : s.val ≤ t.val
  · rw [if_pos c, decide_eq_true c]
    rfl
  · rw [if_neg c, decide_eq_false c]
    rfl

theorem ref_max (b : Fin 2) (h : Fin 8) (t : Fin 8192) :
    val_main_v26 (F := Ideal) x4 (ix3 b h t) = Finset.univ.sup fun s : Fin 8192 => val_main_v25 (F := Ideal) x4 (ix4 b h t s) := by
  unfold val_main_v26 val_main_cst_0
  generalize val_main_v25 (F := Ideal) x4 = A
  pointwise
  rfl

theorem ref_decay (b : Fin 2) (h : Fin 8) (t s : Fin 8192) :
    val_main_v32 (F := Ideal) x4 (ix4 b h t s) = Ideal.exp (val_main_v25 (F := Ideal) x4 (ix4 b h t s) - val_main_v27 (F := Ideal) x4 (ix3 b h t)) := by
  unfold val_main_v32 val_main_v31 val_main_v30 val_main_v29
  generalize val_main_v25 (F := Ideal) x4 = A
  generalize val_main_v27 (F := Ideal) x4 = M
  pointwise

theorem max_neg_zero_neg (r : ℝ) : -max (-r) 0 = min r 0 := by
  rw [← neg_zero, max_neg_neg, neg_neg, neg_zero]

theorem ref_log (b : Fin 2) (h : Fin 8) (t : Fin 8192) (x : EReal) (hx : x4 (ix3 b (⟨8 + h.val, by omega⟩ : Fin 16) t) = x) :
    val_main_v13 (F := Ideal) x4 (ix3 b h t) = lse x := by
  have e : val_main_v12 (F := Ideal) x4 (ix3 b h t) = x := by
    rw [← hx]
    unfold val_main_v12
    pointwise
  unfold val_main_v13 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  generalize val_main_v12 (F := Ideal) x4 = A at e ⊢
  pointwise
  rw [if_neg (fun c => c rfl), e]
  clear e hx
  induction x using EReal.rec with
  | bot =>
    rw [lse_bot, EReal.neg_bot, abs_top, EReal.neg_top, log1p_exp_bot]
    simp
  | top =>
    rw [lse_top, EReal.neg_top, abs_bot, EReal.neg_top, log1p_exp_bot]
    simp
  | coe r =>
    rw [lse_coe, ← EReal.coe_neg, abs_coe, ← EReal.coe_neg, log1p_exp, ← EReal.coe_zero, ← EReal.coe_strictMono.monotone.map_max,
      ← EReal.coe_add, ← EReal.coe_neg]
    refine congrArg _ ?_
    unfold lsg
    rw [abs_neg, neg_add, ← sub_eq_add_neg, max_neg_zero_neg]

end Cert.Proof.MlstmTile

end
-- ==== Proof.TileNorm.lean ====
/-
  The first program's reference: what is returned, from the heads' quotients.
-/
module

public import proofs.«01_k».proof.Proof.Gen.KernelIdeal
public import Idealize.ShloMosaic.Lib.KernelVsHost
public import Idealize.ShloMosaic.Lib.Pointwise
public import Idealize.ShloMosaic.Lib.Pipeline.ValueKit
public import proofs.«01_k».proof.Proof.TileMath
public import proofs.«01_k».proof.Proof.Gen.ReferenceIdeal.Read

@[expose] public section

noncomputable section

namespace Cert.Proof.MlstmTile

open Idealize.ShloMosaic Idealize.ShloMosaic.TcCoe Idealize.SL.Sem Cert.KernelIdeal Cert.KernelIdeal.Gen
open Cert.ReferenceIdeal.Read

variable (x0 : (⟨Cert.ReferenceIdeal.S2x512x8192, .bf16⟩ : BufTy).Contents (Elt Ideal))
  (x1 : (⟨Cert.ReferenceIdeal.S2x8192x512, .bf16⟩ : BufTy).Contents (Elt Ideal))
  (x2 x3 : (⟨Cert.ReferenceIdeal.S2x1024x8192, .bf16⟩ : BufTy).Contents (Elt Ideal))
  (x4 : (⟨Cert.ReferenceIdeal.S2x16x8192, .f32⟩ : BufTy).Contents (Elt Ideal))
  (x5 : (⟨Cert.ReferenceIdeal.S1x1024, .f32⟩ : BufTy).Contents (Elt Ideal))

/-- What is returned at a position and a head's dimension, from the head's normalised quotients. -/
theorem ref_tail (b : Fin 2) (t : Fin 8192) (h : Fin 8) (d : Fin 128) :
    val_main_v60 (F := Ideal) x0 x1 x2 x3 x4 x5 (ix3 b t (⟨h.val * 128 + d.val, by omega⟩ : Fin 1024))
      = x3 (ix3 b (⟨h.val * 128 + d.val, by omega⟩ : Fin 1024) t) * (val_main_v52 (F := Ideal) x0 x1 x2 x4 (ix4 b h t d)
          * x5 (ix2 (0 : Fin 1) (⟨h.val * 128 + d.val, by omega⟩ : Fin 1024))) := by
  have e : val_main_v54 (F := Ideal) x0 x1 x2 x4 (ix3 b t (⟨h.val * 128 + d.val, by omega⟩ : Fin 1024))
      = val_main_v52 (F := Ideal) x0 x1 x2 x4 (ix4 b h t d) := by
    rw [val_main_v54_apply, val_main_v53_apply]
    generalize val_main_v52 (F := Ideal) x0 x1 x2 x4 = N
    have hb := b.isLt
    have ht := t.isLt
    have hh := h.isLt
    have hd := d.isLt
    refine congrArg N (funext fun a => Fin.ext ?_)
    match a with
    | ⟨0, _⟩ =>
      show ((b.val * 8192 + t.val) * 1024 + (h.val * 128 + d.val)) / 8388608 = b.val
      omega
    | ⟨1, _⟩ =>
      show ((b.val * 8192 + t.val) * 1024 + (h.val * 128 + d.val)) / 128 % 8 = h.val
      omega
    | ⟨2, _⟩ =>
      show ((b.val * 8192 + t.val) * 1024 + (h.val * 128 + d.val)) / 1024 % 8192 = t.val
      omega
    | ⟨3, _⟩ =>
      show ((b.val * 8192 + t.val) * 1024 + (h.val * 128 + d.val)) % 128 = d.val
      omega
  have w : val_main_v57 (F := Ideal) x5 (ix3 b t (⟨h.val * 128 + d.val, by omega⟩ : Fin 1024))
      = x5 (ix2 (0 : Fin 1) (⟨h.val * 128 + d.val, by omega⟩ : Fin 1024)) := by
    unfold val_main_v57 val_main_v56 val_main_v55
    pointwise
  have o : val_main_v10 (F := Ideal) x3 (ix3 b t (⟨h.val * 128 + d.val, by omega⟩ : Fin 1024))
      = x3 (ix3 b (⟨h.val * 128 + d.val, by omega⟩ : Fin 1024) t) := by
    unfold val_main_v10 val_main_v9
    pointwise
  rw [val_main_v60_apply, val_main_v59_apply, val_main_v58_apply, e, w, o]
  rfl

theorem ref_normed (b : Fin 2) (t : Fin 8192) (h : Fin 8) (d : Fin 128) :
    val_main_v52 (F := Ideal) x0 x1 x2 x4 (ix4 b h t d)
      = val_main_v42 (F := Ideal) x0 x1 x2 x4 (ix4 b h t d) * Ideal.rsqrt (Ideal.div (∑ x : Fin 128, val_main_v42 (F := Ideal) x0 x1 x2 x4 (ix4 b h t x)
          * val_main_v42 (F := Ideal) x0 x1 x2 x4 (ix4 b h t x)) (Ideal.ofBits .f32 0x43000000#32) + Ideal.ofBits .f32 0x358637BD#32) := by
  unfold val_main_v52 val_main_v51 val_main_v50 val_main_v49 val_main_v48 val_main_v47 val_main_v46 val_main_v45 val_main_v44 val_main_v43 val_main_cst_2 val_main_cst_3 val_main_cst_4
  generalize val_main_v42 (F := Ideal) x0 x1 x2 x4 = H
  pointwise

theorem ref_norm (b : Fin 2) (t : Fin 8192) (h : Fin 8) (d : Fin 128) :
    val_main_v60 (F := Ideal) x0 x1 x2 x3 x4 x5 (ix3 b t (⟨h.val * 128 + d.val, by omega⟩ : Fin 1024))
      = tY (fun d => val_main_v42 (F := Ideal) x0 x1 x2 x4 (ix4 b h t d)) (x5 (ix2 (0 : Fin 1) (⟨h.val * 128 + d.val, by omega⟩ : Fin 1024)))
          (x3 (ix3 b (⟨h.val * 128 + d.val, by omega⟩ : Fin 1024) t)) d := by
  rw [ref_tail, ref_normed]
  rfl

end Cert.Proof.MlstmTile

end
-- ==== Proof.TileRefTile.lean ====
/-
  The first program's reference, last part: the first 256 positions of a sequence.
-/
module

public import proofs.«01_k».proof.Proof.Gen.KernelIdeal
public import Idealize.ShloMosaic.Lib.KernelVsHost
public import Idealize.ShloMosaic.Lib.Pointwise
public import Idealize.ShloMosaic.Lib.Pipeline.ValueKit
public import proofs.«01_k».proof.Proof.TileRef
public import proofs.«01_k».proof.Proof.TileNorm
public import proofs.«01_k».proof.Proof.Gen.ReferenceIdeal.Read

@[expose] public section

set_option backward.proofsInPublic true

noncomputable section

namespace Cert.Proof.MlstmTile

open Idealize.ShloMosaic Idealize.ShloMosaic.TcCoe Idealize.SL.Sem Cert.KernelIdeal Cert.KernelIdeal.Gen
open Cert.ReferenceIdeal.Read

theorem foldl_add_sum {n : ℕ} (g : Fin n → EReal) (l : List (Fin n)) (a : EReal) : l.foldl (fun r k => r + g k) a = a + (l.map g).sum := by
  induction l generalizing a with
  | nil => simp
  | cons k l ih => rw [List.foldl_cons, ih, List.map_cons, List.sum_cons, add_assoc]

theorem sum_shift (X : ℕ → EReal) (M t : ℕ) (ht : t ≤ M) :
    ∑ n ∈ Finset.range (M + 1), (if M ≤ t + n then X (t + n - M) else 0) = ∑ s ∈ Finset.range (t + 1), X s := by
  rw [show M + 1 = (M - t) + (t + 1) by omega, Finset.sum_range_add, Finset.sum_eq_zero, zero_add]
  · refine Finset.sum_congr rfl fun s _ => ?_
    rw [if_pos (by omega), show t + (M - t + s) - M = s by omega]
  · intro n hn
    have := Finset.mem_range.mp hn
    rw [if_neg (by omega)]

/-- A running sum along the last axis, as it is written: a window of the whole length, padded low by one less. -/
theorem cumsum_last {A B N M : ℕ} (hN : M + 1 = N) (x : (⟨3, ![A, B, N]⟩ : Shape).Idx → EReal)
    (h : (⟨3, ![A, B, N]⟩ : Shape).ReduceWindows (![1, 1, N] : Fin 3 → ℕ) ![1, 1, 1] ![0, 0, M] ![0, 0, 0] ⟨3, ![A, B, N]⟩)
    (b : Fin A) (c : Fin B) (t : Fin N) :
    Ideal.hostReduceWindowAdd ![1, 1, N] ![1, 1, 1] ![0, 0, M] ![0, 0, 0] h x 0 (ix3 b c t)
      = ∑ s ∈ Finset.range (t.val + 1), if hs : s < N then x (ix3 b c ⟨s, hs⟩) else 0 := by
  subst hN
  have ht := t.isLt
  have hb := b.isLt
  have hc := c.isLt
  unfold Ideal.hostReduceWindowAdd Host.reduceWindow
  refine (foldl_add_sum _ _ _).trans ?_
  rw [zero_add, ← Fin.sum_univ_def]
  have hn : (⟨3, ![1, 1, M + 1]⟩ : Shape).numel = M + 1 := by simp [Shape.numel, Fin.prod_univ_three]
  refine Eq.trans (Finset.sum_congr rfl fun n _ => ?_) ((Fin.sum_univ_eq_sum_range (fun n => if M ≤ t.val + n then
    (if hs : t.val + n - M < M + 1 then x (ix3 b c ⟨t.val + n - M, hs⟩) else 0) else 0) (⟨3, ![1, 1, M + 1]⟩ : Shape).numel).trans ?_)
  · have q := congrArg Fin.val ((⟨3, ![1, 1, M + 1]⟩ : Shape).rowMajor.apply_symm_apply n)
    rw [Shape.rowMajor_val_three] at q
    have k0 : ((⟨3, ![1, 1, M + 1]⟩ : Shape).rowMajor.symm n 0).val < 1 := ((⟨3, ![1, 1, M + 1]⟩ : Shape).rowMajor.symm n 0).isLt
    have k1 : ((⟨3, ![1, 1, M + 1]⟩ : Shape).rowMajor.symm n 1).val < 1 := ((⟨3, ![1, 1, M + 1]⟩ : Shape).rowMajor.symm n 1).isLt
    have k2 : ((⟨3, ![1, 1, M + 1]⟩ : Shape).rowMajor.symm n 2).val < M + 1 := ((⟨3, ![1, 1, M + 1]⟩ : Shape).rowMajor.symm n 2).isLt
    have z0 : ((⟨3, ![1, 1, M + 1]⟩ : Shape).rowMajor.symm n 0).val = 0 := by omega
    have z1 : ((⟨3, ![1, 1, M + 1]⟩ : Shape).rowMajor.symm n 1).val = 0 := by omega
    have q2 : ((⟨3, ![1, 1, M + 1]⟩ : Shape).rowMajor.symm n 2).val = n.val := by
      rw [z0, z1] at q
      change (0 * 1 + 0) * (M + 1) + ((⟨3, ![1, 1, M + 1]⟩ : Shape).rowMajor.symm n 2).val = n.val at q
      omega
    have hnlt : n.val < M + 1 := by omega
    dsimp only
    split
    · next hin =>
      have h2 := hin 2
      change M ≤ t.val * 1 + ((⟨3, ![1, 1, M + 1]⟩ : Shape).rowMajor.symm n 2).val ∧ t.val * 1 + ((⟨3, ![1, 1, M + 1]⟩ : Shape).rowMajor.symm n 2).val - M < M + 1 at h2
      rw [if_pos (by omega), dif_pos (by omega)]
      refine congrArg x (funext fun a => Fin.ext ?_)
      match a with
      | ⟨0, _⟩ =>
        show b.val * 1 + ((⟨3, ![1, 1, M + 1]⟩ : Shape).rowMajor.symm n 0).val - 0 = b.val
        omega
      | ⟨1, _⟩ =>
        show c.val * 1 + ((⟨3, ![1, 1, M + 1]⟩ : Shape).rowMajor.symm n 1).val - 0 = c.val
        omega
      | ⟨2, _⟩ =>
        show t.val * 1 + ((⟨3, ![1, 1, M + 1]⟩ : Shape).rowMajor.symm n 2).val - M = t.val + n.val - M
        omega
    · next hin =>
      rw [if_neg fun hle => hin fun a => by
        match a with
        | ⟨0, _⟩ =>
          show 0 ≤ b.val * 1 + ((⟨3, ![1, 1, M + 1]⟩ : Shape).rowMajor.symm n 0).val ∧ b.val * 1 + ((⟨3, ![1, 1, M + 1]⟩ : Shape).rowMajor.symm n 0).val - 0 < A
          omega
        | ⟨1, _⟩ =>
          show 0 ≤ c.val * 1 + ((⟨3, ![1, 1, M + 1]⟩ : Shape).rowMajor.symm n 1).val ∧ c.val * 1 + ((⟨3, ![1, 1, M + 1]⟩ : Shape).rowMajor.symm n 1).val - 0 < B
          omega
        | ⟨2, _⟩ =>
          show M ≤ t.val * 1 + ((⟨3, ![1, 1, M + 1]⟩ : Shape).rowMajor.symm n 2).val ∧ t.val * 1 + ((⟨3, ![1, 1, M + 1]⟩ : Shape).rowMajor.symm n 2).val - M < M + 1
          omega]
  · rw [hn]
    exact sum_shift (fun s => if hs : s < M + 1 then x (ix3 b c ⟨s, hs⟩) else 0) M t.val (by omega)

/-- A sum of terms that are 0 from the 256th on. -/
theorem sum_first {N : ℕ} (hN : 256 ≤ N) (g : Fin N → EReal) (hz : ∀ k : Fin N, 256 ≤ k.val → g k = 0) :
    ∑ k, g k = ∑ k : Fin 256, g ⟨k.val, by omega⟩ := by
  rw [← Finset.sum_subset (Finset.subset_univ (Finset.univ.map (Fin.castLEEmb hN))) fun k _ hk => hz k ?_, Finset.sum_map]
  · rfl
  · by_contra c
    exact hk (Finset.mem_map.mpr ⟨⟨k.val, by omega⟩, Finset.mem_univ _, Fin.ext rfl⟩)

variable (x0 : (⟨Cert.ReferenceIdeal.S2x512x8192, .bf16⟩ : BufTy).Contents (Elt Ideal))
  (x1 : (⟨Cert.ReferenceIdeal.S2x8192x512, .bf16⟩ : BufTy).Contents (Elt Ideal))
  (x2 x3 : (⟨Cert.ReferenceIdeal.S2x1024x8192, .bf16⟩ : BufTy).Contents (Elt Ideal))
  (x4 : (⟨Cert.ReferenceIdeal.S2x16x8192, .f32⟩ : BufTy).Contents (Elt Ideal))
  (x5 : (⟨Cert.ReferenceIdeal.S1x1024, .f32⟩ : BufTy).Contents (Elt Ideal))

section gates

variable (b : Fin 2) (i f : Fin 8 → ℕ → EReal)
  (hi : ∀ (h : Fin 8) (t : Fin 256), x4 (ix3 b (⟨h.val, Nat.lt_of_lt_of_le h.isLt (Nat.le_of_ble_eq_true rfl)⟩ : Fin 16) (⟨t.val, Nat.lt_of_lt_of_le t.isLt (Nat.le_of_ble_eq_true rfl)⟩ : Fin 8192)) = i h t.val)
  (hf : ∀ (h : Fin 8) (t : Fin 256), x4 (ix3 b (⟨8 + h.val, Nat.add_lt_add_left h.isLt 8⟩ : Fin 16) (⟨t.val, Nat.lt_of_lt_of_le t.isLt (Nat.le_of_ble_eq_true rfl)⟩ : Fin 8192)) = f h t.val)

include hf in
theorem ref_F (h : Fin 8) (t : Fin 8192) (ht : t.val < 256) : val_main_v14 (F := Ideal) x4 (ix3 b h t) = rF (f h) t.val := by
  have e : val_main_v14 (F := Ideal) x4 (ix3 b h t) = ∑ s ∈ Finset.range (t.val + 1), if hs : s < 8192 then val_main_v13 (F := Ideal) x4 (ix3 b h ⟨s, hs⟩) else 0 := by
    unfold val_main_v14
    have z : val_main_call1_call0_v0 (F := Ideal) (Shape.Idx.first Cert.ReferenceIdeal.Gen.h_S_) = 0 := by
      unfold val_main_call1_call0_v0 val_main_call1_call0_cst
      show Ideal.ofBits .f32 0x00000000#32 = 0
      simp
    generalize val_main_v13 (F := Ideal) x4 = X
    unfold Host.reduceWindowAdd
    rw [z]
    exact cumsum_last (by norm_num) X _ b h t
  rw [e]
  unfold rF
  refine Finset.sum_congr rfl fun s hs => ?_
  have h1 := Finset.mem_range.mp hs
  rw [dif_pos (by omega)]
  exact ref_log x4 b h ⟨s, by omega⟩ _ (hf h ⟨s, by omega⟩)

include hi hf in
theorem ref_D (h : Fin 8) (t : Fin 8192) (ht : t.val < 256) (s : Fin 8192) : val_main_v25 (F := Ideal) x4 (ix4 b h t s)
    = if s.val ≤ t.val then rF (f h) t.val + rU (i h) (f h) s.val else ⊥ := by
  rw [ref_masked]
  by_cases c : s.val ≤ t.val
  · rw [if_pos c, if_pos c, ref_logits, ref_F x4 b f hf h t ht, ref_F x4 b f hf h s (by omega)]
    have e := hi h ⟨s.val, by omega⟩
    refine (congrArg (_ + ·) e).trans ?_
    unfold rU
    rw [sub_eq_add_neg, sub_eq_add_neg, add_assoc, add_comm (-rF (f h) s.val)]
  · rw [if_neg c, if_neg c]

include hi hf in
theorem ref_M (h : Fin 8) (t : Fin 8192) (ht : t.val < 256) : val_main_v27 (F := Ideal) x4 (ix3 b h t)
    = rF (f h) t.val + rM (i h) (f h) t.val := by
  have e : val_main_v26 (F := Ideal) x4 (ix3 b h t) = rF (f h) t.val + (Finset.range (t.val + 1)).sup (rU (i h) (f h)) := by
    rw [ref_max, ← sup_shift]
    refine le_antisymm (Finset.sup_le fun s _ => ?_) (Finset.sup_le fun s hs => ?_)
    · rw [ref_D x4 b i f hi hf h t ht s]
      by_cases c : s.val ≤ t.val
      · rw [if_pos c]
        exact Finset.le_sup (f := fun s => rF (f h) t.val + rU (i h) (f h) s) (Finset.mem_range.mpr (by omega))
      · rw [if_neg c]
        exact bot_le
    · have h1 := Finset.mem_range.mp hs
      refine le_trans (le_of_eq ?_) (Finset.le_sup (f := fun s : Fin 8192 => val_main_v25 (F := Ideal) x4 (ix4 b h t s)) (Finset.mem_univ (⟨s, by omega⟩ : Fin 8192)))
      show _ = val_main_v25 (F := Ideal) x4 (ix4 b h t ⟨s, by omega⟩)
      rw [ref_D x4 b i f hi hf h t ht, if_pos (by show s ≤ t.val; omega)]
  show max (val_main_v14 (F := Ideal) x4 (ix3 b h t)) (val_main_v26 (F := Ideal) x4 (ix3 b h t)) = _
  rw [e, ref_F x4 b f hf h t ht]
  have hm : Monotone fun x : EReal => rF (f h) t.val + x := fun x y h => add_le_add le_rfl h
  have e2 := hm.map_max (a := (Finset.range (t.val + 1)).sup (rU (i h) (f h))) (b := 0)
  unfold rM
  rw [e2, add_zero, max_comm]

include hi hf in
theorem ref_E (h : Fin 8) (t : Fin 8192) (ht : t.val < 256) (hr : rF (f h) t.val ≠ ⊥) (s : Fin 8192) : val_main_v32 (F := Ideal) x4 (ix4 b h t s)
    = rDec (i h) (f h) s.val t.val := by
  rw [ref_decay, ref_D x4 b i f hi hf h t ht, ref_M x4 b i f hi hf h t ht]
  unfold rDec
  by_cases c : s.val ≤ t.val
  · rw [if_pos c, if_pos c]
    lift rF (f h) t.val to ℝ using ⟨rF_ne_top _ _, hr⟩ with a
    rw [sub_shift]
  · rw [if_neg c, if_neg c, EReal.bot_sub]
    rfl

theorem div_max_top (x a e : EReal) (h : e = ⊤) : Ideal.div x (max a e) = 0 := by
  unfold Ideal.div
  rw [h, max_top_right, if_neg EReal.top_ne_zero, EReal.inv_top, mul_zero]

/-- A head's scores, over the arguments. -/
def aS (h : Fin 8) (s l : Fin 256) : EReal :=
  ∑ j : Fin 64, x1 (ix3 b (⟨s.val, by omega⟩ : Fin 8192) (⟨h.val * 64 + j.val, by omega⟩ : Fin 512))
    * x0 (ix3 b (⟨h.val * 64 + j.val, by omega⟩ : Fin 512) (⟨l.val, by omega⟩ : Fin 8192))

/-- What is returned at one of the first 256 positions. -/
def aY (h : Fin 8) (l : Fin 256) (d : Fin 128) : EReal :=
  tY (fun d => tQ (aS x0 x1 b h) (fun s l => rDec (i h) (f h) s.val l.val)
        (fun d s => x2 (ix3 b (⟨h.val * 128 + d.val, by omega⟩ : Fin 1024) (⟨s.val, by omega⟩ : Fin 8192))) (fun l => rLow (i h) (f h) l.val) d l)
    (x5 (ix2 (0 : Fin 1) (⟨h.val * 128 + d.val, by omega⟩ : Fin 1024))) (x3 (ix3 b (⟨h.val * 128 + d.val, by omega⟩ : Fin 1024) (⟨l.val, by omega⟩ : Fin 8192))) d

include hi hf in
theorem ref_tile (h : Fin 8) (l : Fin 256) (d : Fin 128) :
    val_main_v60 (F := Ideal) x0 x1 x2 x3 x4 x5 (ix3 b (⟨l.val, by omega⟩ : Fin 8192) (⟨h.val * 128 + d.val, by omega⟩ : Fin 1024))
      = aY x0 x1 x2 x3 x5 b i f h l d := by
  rw [ref_norm]
  unfold aY
  refine congrArg (fun H => tY H _ _ d) (funext fun d => ?_)
  have hS : ∀ s : Fin 256, val_main_v28 (F := Ideal) x0 x1 (ix4 b h (⟨l.val, by omega⟩ : Fin 8192) (⟨s.val, by omega⟩ : Fin 8192)) = aS x0 x1 b h s l := fun s => by
    rw [ref_scores]
    exact Finset.sum_congr rfl fun j _ => mul_comm _ _
  rw [ref_quot, ref_num, ref_M x4 b i f hi hf h ⟨l.val, by omega⟩ l.isLt]
  unfold tQ
  by_cases hr : rF (f h) l.val = ⊥
  · have ht : rLow (i h) (f h) l.val = ⊤ := by
      unfold rLow
      rw [hr, EReal.bot_add, EReal.neg_bot]
      rfl
    exact (div_max_top _ _ _ ht).trans (div_max_top _ _ _ ht).symm
  have hE : ∀ s : Fin 8192, val_main_v32 (F := Ideal) x4 (ix4 b h (⟨l.val, by omega⟩ : Fin 8192) s) = rDec (i h) (f h) s.val l.val :=
    fun s => ref_E x4 b i f hi hf h ⟨l.val, by omega⟩ l.isLt hr s
  have hz : ∀ s : Fin 8192, 256 ≤ s.val → rDec (i h) (f h) s.val l.val = 0 := fun s hs => if_neg (by have := l.isLt; omega)
  refine congrArg₂ Ideal.div ?_ (congrArg₂ max (congrArg _ ?_) ?_)
  · rw [sum_first (by norm_num) _ fun s hs => by rw [hE, hz s hs, mul_zero, zero_mul]]
    refine Finset.sum_congr rfl fun s _ => ?_
    rw [hS, hE, mul_comm]
  · rw [sum_first (by norm_num) _ fun s hs => by rw [hE, hz s hs, mul_zero]]
    refine Finset.sum_congr rfl fun s _ => ?_
    rw [hS, hE]
  · rfl

end gates

end Cert.Proof.MlstmTile

end
-- ==== Proof.TileClaim.lean ====
/-
  The first program's first chunk: the kernel's first 256 rows of each sequence are the reference's.
-/
module

public import proofs.«01_k».proof.Defs
public import proofs.«01_k».proof.Proof.TileOut
public import proofs.«01_k».proof.Proof.TileWin
public import proofs.«01_k».proof.Proof.TileRefTile
public import proofs.«01_k».proof.Proof.Gen.ReferenceIdeal.Run
public import proofs.«01_k».proof.Proof.Gen.ReferenceIdeal

@[expose] public section

set_option backward.proofsInPublic true

noncomputable section

namespace Cert.Proof.MlstmTile

open Idealize.ShloMosaic Idealize.ShloMosaic.TcCoe Idealize.SL.Sem Cert.KernelIdeal Cert.KernelIdeal.Gen
open Cert.ReferenceIdeal.Read

variable (m : (ℓ : Loc nD τ sig) → Buf (Elt Ideal) ℓ)

/-- What the reference computes from the kernel's arguments, before its last slice. -/
abbrev whole (c : Dev nD) := val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem blockY (c : Dev nD) (t : Fin cfg0.N) (h0 : t.val % 4 = 0) (i f : Fin 8 → ℕ → EReal) (h : Fin 8) (l : Fin 256) (d : Fin 128) :
    wY (iblk m c 0 t) (iblk m c 1 t) (iblk m c 2 t) (iblk m c 3 t) (iblk m c 5 t) i f h l d
      = aY (m ((c : Thread nD τ).loc main_arg0)) (m ((c : Thread nD τ).loc main_arg1)) (m ((c : Thread nD τ).loc main_arg2))
          (m ((c : Thread nD τ).loc main_arg3)) (m ((c : Thread nD τ).loc main_arg5)) (tsq t) i f h l d := by
  have eS : wS (iblk m c 0 t) (iblk m c 1 t) h = aS (m ((c : Thread nD τ).loc main_arg0)) (m ((c : Thread nD τ).loc main_arg1)) (tsq t) h := by
    funext s l
    unfold wS aS
    exact Finset.sum_congr rfl fun j _ => congrArg₂ (· * ·) (wk_at m c t h0 ⟨h.val * 64 + j.val, by omega⟩ s) (wq_at m c t h0 ⟨h.val * 64 + j.val, by omega⟩ l)
  have eV : (fun (d : Fin 128) (s : Fin 256) => iblk m c 2 t (ix3 (0 : Fin 1) (⟨h.val * 128 + d.val, by omega⟩ : Fin 1024) (⟨s.val, by omega⟩ : Fin 2048)))
      = fun d s => (m ((c : Thread nD τ).loc main_arg2)) (ix3 (tsq t) (⟨h.val * 128 + d.val, by omega⟩ : Fin 1024) (⟨s.val, by omega⟩ : Fin 8192)) := by
    funext d s
    exact wv_at m c t h0 ⟨h.val * 128 + d.val, by omega⟩ s
  have eO := wo_at m c t h0 ⟨h.val * 128 + d.val, by omega⟩ l
  have eW := wn_at m c t ⟨h.val * 128 + d.val, by omega⟩ ⟨l.val % 128, by omega⟩
  unfold wY aY
  rw [eS]
  exact congr (congr (congr (congrArg tY (funext fun d => congrArg (fun X => tQ (aS (m ((c : Thread nD τ).loc main_arg0)) (m ((c : Thread nD τ).loc main_arg1)) (tsq t) h) (fun s l => rDec (i h) (f h) s.val l.val) X (fun l => rLow (i h) (f h) l.val) d l) eV)) eW) eO) rfl

theorem after_tile (c : Dev nD) (t : Fin cfg0.N) (h0 : t.val % 4 = 0) (y : S1x2048x1024.Idx) (hy : (y 1).val < 256) :
    (dats m 0 c).after 6 t y = whole m c (ix3 (tsq t) (⟨(y 1).val, by omega⟩ : Fin 8192) (y 2 : Fin 1024)) := by
  have hy2 : (y 2).val < 1024 := (y 2).isLt
  let i : Fin 8 → ℕ → EReal := fun h n => if hn : n < 256 then (m ((c : Thread nD τ).loc main_arg4)) (ix3 (tsq t) (⟨h.val, by omega⟩ : Fin 16) (⟨n, by omega⟩ : Fin 8192)) else 0
  let f : Fin 8 → ℕ → EReal := fun h n => if hn : n < 256 then (m ((c : Thread nD τ).loc main_arg4)) (ix3 (tsq t) (⟨8 + h.val, by omega⟩ : Fin 16) (⟨n, by omega⟩ : Fin 8192)) else 0
  have hi : ∀ (h : Fin 8) (s : Fin 256), (m ((c : Thread nD τ).loc main_arg4)) (ix3 (tsq t) (⟨h.val, by omega⟩ : Fin 16) (⟨s.val, by omega⟩ : Fin 8192)) = i h s.val := by
    intro h s
    show _ = if hn : s.val < 256 then _ else _
    rw [dif_pos s.isLt]
  have hf : ∀ (h : Fin 8) (s : Fin 256), (m ((c : Thread nD τ).loc main_arg4)) (ix3 (tsq t) (⟨8 + h.val, by omega⟩ : Fin 16) (⟨s.val, by omega⟩ : Fin 8192)) = f h s.val := by
    intro h s
    show _ = if hn : s.val < 256 then _ else _
    rw [dif_pos s.isLt]
  rw [after0_6, outsAt0_A m c t h0]
  dsimp only
  refine (out_tile c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) i f
    (fun h s => (wg_at m c t h0 ⟨h.val, by omega⟩ s).trans (hi h s)) (fun h s => (wg_at m c t h0 ⟨8 + h.val, by omega⟩ s).trans (hf h s))
    y ⟨(y 2).val / 128, by omega⟩ ⟨(y 1).val, hy⟩ ⟨(y 2).val % 128, by omega⟩ rfl (by show _ = (y 2).val / 128 * 128 + (y 2).val % 128; omega)).trans ?_
  refine (blockY m c t h0 i f _ _ _).trans ?_
  refine (ref_tile _ _ _ _ _ _ (tsq t) i f hi hf ⟨(y 2).val / 128, by omega⟩ ⟨(y 1).val, hy⟩ ⟨(y 2).val % 128, by omega⟩).symm.trans ?_
  unfold whole
  refine congrArg _ (funext fun a => Fin.ext ?_)
  match a with
  | ⟨0, _⟩ => rfl
  | ⟨1, _⟩ => rfl
  | ⟨2, _⟩ => show (y 2).val / 128 * 128 + (y 2).val % 128 = (y 2).val; omega

theorem final_tile (c : Dev nD) (j : S2x8192x1024.Idx) (hj : (j 1).val < 256) :
    (dats m 0 c).arrAt 6 (cfgs 0).N j = whole m c j := by
  refine (dats m 0 c).arrAt_forall_of_covers 6 (fun j v => (j 1).val < 256 → v = whole m c j) (by decide +kernel) (fun t hf y => ?_) j (Memref.isWhole_whole _) hj
  have hp := places t
  blk_simp
  intro hy
  have e1 : win0_6.index t 1 = t.val % 4 := congrFun hp.2.2.2.2.2.2 1
  rw [e1] at hy
  refine (after_tile m c t (by omega) y (by omega)).trans (congrArg _ ?_)
  have h0 : t.val % 4 = 0 := by omega
  unfold tsq
  blk_ext [hp]

/-- The first 256 rows of what the kernel's launch leaves are the reference's result. -/
theorem final_slice (c : Dev nD) :
    extractStridedSlice S2x256x1024 ![0, 0, 0] ((dats m 0 c).arrAt 6 (cfgs 0).N) slices_S2x8192x1024_S2x256x1024_0_0_0
      = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  rw [val_main_v61_apply]
  refine (extractStridedSlice_apply ![0, 0, 0] _ slices_S2x8192x1024_S2x256x1024_0_0_0 j (idx_main_v61 j) (fun a => ?_)).trans
    (final_tile m c (idx_main_v61 j) (j 1).isLt)
  match a with
  | ⟨0, _⟩ => show (j 0).val = 0 + (j 0).val; omega
  | ⟨1, _⟩ => show (j 1).val = 0 + (j 1).val; omega
  | ⟨2, _⟩ => show (j 2).val = 0 + (j 2).val; omega

theorem run_slice (g : Dev nD → PrngReg) : θ_run (defs (F := Ideal)) (onTc (τ := τ) (main (F := Ideal))) ⟨m, fun _ => 0, g⟩ (fun r => ∀ c : Dev nD,
    r.2.mem ((c.tc : Thread nD τ).loc main_v4) = extractStridedSlice S2x256x1024 ![0, 0, 0] ((dats m 0 c).arrAt 6 (cfgs 0).N) slices_S2x8192x1024_S2x256x1024_0_0_0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  run_from (Cert.KernelIdeal.Gen.run_main m g)
  · unfold Pipeline.afterTail₀
    show StableHlo.after hostOps1 _ _ = _
    after_results
    exact congrArg (extractStridedSlice S2x256x1024 ![0, 0, 0] · slices_S2x8192x1024_S2x256x1024_0_0_0)
      (Pipeline.withArrays_arr (cfgs 0).spec (by decide) c (V0 m c) (fun w => (dats m 0 c).arrAt w (cfgs 0).N) 6)
  · unfold Pipeline.afterTail₀
    show StableHlo.after hostOps1 _ _ = _
    after_results
    refine (Pipeline.withArrays_of_ne (cfgs 0).spec c (V0 m c) (fun w => (dats m 0 c).arrAt w (cfgs 0).N) main_arg5 (by decide)).trans ?_
    show StableHlo.after hostOps0 _ _ = _
    after_results

/-- Both run; from equal arguments they end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => extractStridedSlice S2x256x1024 ![0, 0, 0] ((dats m 0 c).arrAt 6 (cfgs 0).N) slices_S2x8192x1024_S2x256x1024_0_0_0,
    run_slice m g, ?_⟩
  refine (θ_run (Cert.ReferenceIdeal.defs (F := Ideal)) _ _).mono (fun r h c => ?_) (Cert.ReferenceIdeal.Value.run (F := Ideal) m' g')
  obtain ⟨hq, hrest⟩ := h c
  obtain ⟨h0, h1, h2, h3, h4, h5⟩ := hargs c
  refine ⟨hq.trans ?_, hrest⟩
  refine Eq.trans ?_ (final_slice m c).symm
  rw [← h0, ← h1, ← h2, ← h3, ← h4, ← h5, val_main_v61_eq]

end Cert.Proof.MlstmTile
-- ==== Proof.lean ====
/-
  The certificate's claim, put together from the generated frames and the value modules.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.FfnFinal
public import proofs.«01_k».proof.Proof.FfnFirst
public import proofs.«01_k».proof.Proof.MlstmProj
public import proofs.«01_k».proof.Proof.AttnProj
public import proofs.«01_k».proof.Proof.TileClaim
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Gen.frame m ρ,
    fun m ρ _ => Cert.KernelIdeal.Gen.frame m ρ,
    fun m ρ _ => (θ_run (Cert.ReferenceIdeal.defs (F := Ideal)) _ _).mono
      (fun r h => ⟨fun c => (h c).2, sem_eq_zero_of_no_sems rfl r.2⟩) (Cert.ReferenceIdeal.Value.run (F := Ideal) m ρ),
    fun m ρ _ => Cert.Kernel2.Gen.frame m ρ,
    fun m ρ _ => Cert.Kernel2Ideal.Gen.frame m ρ,
    fun m ρ _ => (θ_run (Cert.Reference2Ideal.defs (F := Ideal)) _ _).mono
      (fun r h => ⟨fun c => (h c).2, sem_eq_zero_of_no_sems rfl r.2⟩) (Cert.Reference2Ideal.Value.run (F := Ideal) m ρ),
    fun m ρ _ => Cert.Kernel3.Gen.frame m ρ,
    fun m ρ _ => Cert.Kernel3Ideal.Gen.frame m ρ,
    fun m ρ _ => (θ_run (Cert.Reference3Ideal.defs (F := Ideal)) _ _).mono
      (fun r h => ⟨fun c => (h c).2, sem_eq_zero_of_no_sems rfl r.2⟩) (Cert.Reference3Ideal.Value.run (F := Ideal) m ρ),
    fun m ρ _ => Cert.Kernel4.Gen.frame m ρ,
    fun m ρ _ => Cert.Kernel4Ideal.Gen.frame m ρ,
    fun m ρ _ => (θ_run (Cert.Reference4Ideal.defs (F := Ideal)) _ _).mono
      (fun r h => ⟨fun c => (h c).2.2.2.2.2, sem_eq_zero_of_no_sems rfl r.2⟩) (Cert.Reference4Ideal.Value.run (F := Ideal) m ρ),
    fun m ρ _ => Cert.Kernel5.Gen.frame m ρ,
    fun m ρ _ => Cert.Kernel5Ideal.Gen.frame m ρ,
    fun m ρ _ => (θ_run (Cert.Reference5Ideal.defs (F := Ideal)) _ _).mono
      (fun r h => ⟨fun c => (h c).2.2.2.2, sem_eq_zero_of_no_sems rfl r.2⟩) (Cert.Reference5Ideal.Value.run (F := Ideal) m ρ),
    IdealRules.named_const.statement _ _ _ _ _ rfl,
    MlstmTile.algebraic,
    trivial,
    FfnFinal.algebraic,
    trivial,
    FfnFirst.algebraic,
    trivial,
    MlstmProj.algebraic,
    trivial,
    AttnProj.algebraic⟩

end Cert.Proof

end
